-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x7168 : Shape := ⟨3, ![2, 128, 7168]⟩
abbrev S2x128 : Shape := ⟨2, ![2, 128]⟩
abbrev S2x128x18432 : Shape := ⟨3, ![2, 128, 18432]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S_ : Shape := ⟨0, ![]⟩

class Facts : Prop where
  natLt_8_32 : 8 < 32
  bcast_S_S2x128x7168 : S_.BroadcastsInDim S2x128x7168 (![] : Fin 0 → Fin S2x128x7168.rank)
  bcast_S_S2x128x18432 : S_.BroadcastsInDim S2x128x18432 (![] : Fin 0 → Fin S2x128x18432.rank)
  bcast_S_S2x128 : S_.BroadcastsInDim S2x128 (![] : Fin 0 → Fin S2x128.rank)
  bcast_S_S7168x32 : S_.BroadcastsInDim S7168x32 (![] : Fin 0 → Fin S7168x32.rank)
  bcast_S_S32x18432 : S_.BroadcastsInDim S32x18432 (![] : Fin 0 → Fin S32x18432.rank)

variable [Facts]

def fn_part1 {F : FTy → Type} [FloatOps F] (main_arg7 : FVec F S32x18432 .bf16) (main_v4 : IVec S2x128x7168 1) (main_v9 : IVec S2x128x18432 1) (main_v12 : IVec S2x128 1) (main_v15 : IVec S2x128 1) (main_v16 : FVec F S7168x32 .bf16) (main_cst_4 : FVec F S_ .bf16) : IVec S2x128x7168 1 × IVec S2x128x18432 1 × IVec S2x128 1 × IVec S2x128 1 × IVec S7168x32 1 × IVec S32x18432 1 :=
  let main_v17 : FVec F S7168x32 .bf16 := broadcastInDim S7168x32 ![] bcast_S_S7168x32 main_cst_4
  let main_v18 : IVec S7168x32 1 := cmpf .olt main_v16 main_v17
  let main_v19 : FVec F S32x18432 .bf16 := Host.absf main_arg7
  let main_cst_5 : FVec F S_ .bf16 := constant S_ .bf16 0x7F80#16
  let main_v20 : FVec F S32x18432 .bf16 := broadcastInDim S32x18432 ![] bcast_S_S32x18432 main_cst_5
  let main_v21 : IVec S32x18432 1 := cmpf .olt main_v19 main_v20
  (main_v4, main_v9, main_v12, main_v15, main_v18, main_v21)

def fn {F : FTy → Type} [FloatOps F] (main_arg0 : IVec S2x128x7168 8) (main_arg1 : FVec F S2x128 .f32) (main_arg2 : IVec S2x128x18432 8) (main_arg3 : FVec F S2x128 .f32) (main_arg4 : FVec F S7168x18432 .fp8e4m3) (main_arg5 : FVec F S18432 .f32) (main_arg6 : FVec F S7168x32 .bf16) (main_arg7 : FVec F S32x18432 .bf16) : IVec S2x128x7168 1 × IVec S2x128x18432 1 × IVec S2x128 1 × IVec S2x128 1 × IVec S7168x32 1 × IVec S32x18432 1 :=
  let main_v0 : IVec S2x128x7168 32 := (extui 32 · natLt_8_32) main_arg0
  let main_c : IVec S_ 32 := constantI S_ 32 127#32
  let main_v1 : IVec S2x128x7168 32 := broadcastInDim S2x128x7168 ![] bcast_S_S2x128x7168 main_c
  let main_v2 : IVec S2x128x7168 32 := andi main_v0 main_v1
  let main_c_0 : IVec S_ 32 := constantI S_ 32 127#32
  let main_v3 : IVec S2x128x7168 32 := broadcastInDim S2x128x7168 ![] bcast_S_S2x128x7168 main_c_0
  let main_v4 : IVec S2x128x7168 1 := cmpi .slt main_v2 main_v3
  let main_v5 : IVec S2x128x18432 32 := (extui 32 · natLt_8_32) main_arg2
  let main_c_1 : IVec S_ 32 := constantI S_ 32 127#32
  let main_v6 : IVec S2x128x18432 32 := broadcastInDim S2x128x18432 ![] bcast_S_S2x128x18432 main_c_1
  let main_v7 : IVec S2x128x18432 32 := andi main_v5 main_v6
  let main_c_2 : IVec S_ 32 := constantI S_ 32 124#32
  let main_v8 : IVec S2x128x18432 32 := broadcastInDim S2x128x18432 ![] bcast_S_S2x128x18432 main_c_2
  let main_v9 : IVec S2x128x18432 1 := cmpi .slt main_v7 main_v8
  let main_v10 : FVec F S2x128 .f32 := Host.absf main_arg1
  let main_cst : FVec F S_ .f32 := constant S_ .f32 0x7F800000#32
  let main_v11 : FVec F S2x128 .f32 := broadcastInDim S2x128 ![] bcast_S_S2x128 main_cst
  let main_v12 : IVec S2x128 1 := cmpf .olt main_v10 main_v11
  let main_v13 : FVec F S2x128 .f32 := Host.absf main_arg3
  let main_cst_3 : FVec F S_ .f32 := constant S_ .f32 0x7F800000#32
  let main_v14 : FVec F S2x128 .f32 := broadcastInDim S2x128 ![] bcast_S_S2x128 main_cst_3
  let main_v15 : IVec S2x128 1 := cmpf .olt main_v13 main_v14
  let main_v16 : FVec F S7168x32 .bf16 := Host.absf main_arg6
  let main_cst_4 : FVec F S_ .bf16 := constant S_ .bf16 0x7F80#16
  fn_part1 (F := F) main_arg7 main_v4 main_v9 main_v12 main_v15 main_v16 main_cst_4
-- ==== Kernel.lean ====
abbrev S2x128x7168 : Shape := ⟨3, ![2, 128, 7168]⟩
abbrev S2x128 : Shape := ⟨2, ![2, 128]⟩
abbrev S2x128x18432 : Shape := ⟨3, ![2, 128, 18432]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S256x7168 : Shape := ⟨2, ![256, 7168]⟩
abbrev S256x18432 : Shape := ⟨2, ![256, 18432]⟩
abbrev S1x18432 : Shape := ⟨2, ![1, 18432]⟩
abbrev S256x32 : Shape := ⟨2, ![256, 32]⟩
abbrev S512x18432 : Shape := ⟨2, ![512, 18432]⟩
abbrev S256x512 : Shape := ⟨2, ![256, 512]⟩
abbrev S512x32 : Shape := ⟨2, ![512, 32]⟩
abbrev S256x96 : Shape := ⟨2, ![256, 96]⟩
abbrev S96x256 : Shape := ⟨2, ![96, 256]⟩
abbrev S256x128 : Shape := ⟨2, ![256, 128]⟩
abbrev S1x128 : Shape := ⟨2, ![1, 128]⟩
abbrev S1x256 : Shape := ⟨2, ![1, 256]⟩
abbrev S1x2048 : Shape := ⟨2, ![1, 2048]⟩
abbrev S256x2048 : Shape := ⟨2, ![256, 2048]⟩
abbrev S32x256 : Shape := ⟨2, ![32, 256]⟩
abbrev S96x18432 : Shape := ⟨2, ![96, 18432]⟩
abbrev S128x256 : Shape := ⟨2, ![128, 256]⟩
abbrev S512x96 : Shape := ⟨2, ![512, 96]⟩
abbrev S256x1 : Shape := ⟨2, ![256, 1]⟩
abbrev S96x512 : Shape := ⟨2, ![96, 512]⟩
abbrev S32x512 : Shape := ⟨2, ![32, 512]⟩

abbrev nBuf : Space → Nat
  | .hbm => 18
  | .vmem => 20
  | .smem => 0
  | _ => 0

abbrev bufTy : (tb : Table) → Fin (tcTables nBuf tb) → BufTy
  | .hbm, ⟨0, _⟩ => ⟨S2x128x7168, .i8⟩
  | .hbm, ⟨1, _⟩ => ⟨S2x128, .f32⟩
  | .hbm, ⟨2, _⟩ => ⟨S2x128x18432, .i8⟩
  | .hbm, ⟨3, _⟩ => ⟨S2x128, .f32⟩
  | .hbm, ⟨4, _⟩ => ⟨S7168x18432, .fp8e4m3⟩
  | .hbm, ⟨5, _⟩ => ⟨S18432, .f32⟩
  | .hbm, ⟨6, _⟩ => ⟨S7168x32, .bf16⟩
  | .hbm, ⟨7, _⟩ => ⟨S32x18432, .bf16⟩
  | .hbm, ⟨8, _⟩ => ⟨S2x128x7168, .fp8e4m3⟩
  | .hbm, ⟨9, _⟩ => ⟨S2x128x18432, .fp8e5m2⟩
  | .hbm, ⟨10, _⟩ => ⟨S256x7168, .fp8e4m3⟩
  | .hbm, ⟨11, _⟩ => ⟨S256x18432, .fp8e5m2⟩
  | .hbm, ⟨12, _⟩ => ⟨S1x18432, .f32⟩
  | .hbm, ⟨13, _⟩ => ⟨S256x7168, .bf16⟩
  | .hbm, ⟨14, _⟩ => ⟨S7168x32, .f32⟩
  | .hbm, ⟨15, _⟩ => ⟨S32x18432, .f32⟩
  | .hbm, ⟨16, _⟩ => ⟨S256x32, .f32⟩
  | .hbm, ⟨17, _⟩ => ⟨S256x32, .f32⟩
  | .local _ .vmem, ⟨0, _⟩ => ⟨S256x7168, .fp8e4m3⟩
  | .local _ .vmem, ⟨1, _⟩ => ⟨S2x128, .f32⟩
  | .local _ .vmem, ⟨2, _⟩ => ⟨S256x18432, .fp8e5m2⟩
  | .local _ .vmem, ⟨3, _⟩ => ⟨S2x128, .f32⟩
  | .local _ .vmem, ⟨4, _⟩ => ⟨S512x18432, .fp8e4m3⟩
  | .local _ .vmem, ⟨5, _⟩ => ⟨S512x18432, .fp8e4m3⟩
  | .local _ .vmem, ⟨6, _⟩ => ⟨S1x18432, .f32⟩
  | .local _ .vmem, ⟨7, _⟩ => ⟨S7168x32, .bf16⟩
  | .local _ .vmem, ⟨8, _⟩ => ⟨S32x18432, .bf16⟩
  | .local _ .vmem, ⟨9, _⟩ => ⟨S256x512, .bf16⟩
  | .local _ .vmem, ⟨10, _⟩ => ⟨S256x512, .bf16⟩
  | .local _ .vmem, ⟨11, _⟩ => ⟨S512x32, .f32⟩
  | .local _ .vmem, ⟨12, _⟩ => ⟨S512x32, .f32⟩
  | .local _ .vmem, ⟨13, _⟩ => ⟨S32x18432, .f32⟩
  | .local _ .vmem, ⟨14, _⟩ => ⟨S256x32, .f32⟩
  | .local _ .vmem, ⟨15, _⟩ => ⟨S256x32, .f32⟩
  | .local _ .vmem, ⟨16, _⟩ => ⟨S256x18432, .bf16⟩
  | .local _ .vmem, ⟨17, _⟩ => ⟨S256x96, .bf16⟩
  | .local _ .vmem, ⟨18, _⟩ => ⟨S96x256, .bf16⟩
  | .local _ .vmem, ⟨19, _⟩ => ⟨S256x128, .f32⟩
  | _, _ => ⟨S2x128x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_26 : BitVec 32 := 0#32
  let c9_i32 : BitVec 32 := 9#32
  let v39 : BitVec 32 := Scalar.addi c0_i32_26 c9_i32
  let c1_i32 : BitVec 32 := 1#32
  ⟨c0_i32_26, v39, c1_i32⟩
def k0_mult1 (k0_t1 : Fin k0_t1_loop.trips) : BitVec 32 :=
  let c0_i32_26 : BitVec 32 := 0#32
  let c1_i32 : BitVec 32 := 1#32
  let arg18 : BitVec 32 := Scf.iv c0_i32_26 c1_i32 k0_t1
  let c2048_i32 : BitVec 32 := 2048#32
  let v112 : BitVec 32 := Scalar.muli arg18 c2048_i32
  v112
def k0_off1 (k0_t1 : Fin k0_t1_loop.trips) : Fin 2 → Nat :=
  let c0_55 : Index := 0#32
  let c0_i32_26 : BitVec 32 := 0#32
  let c1_i32 : BitVec 32 := 1#32
  let arg18 : BitVec 32 := Scf.iv c0_i32_26 c1_i32 k0_t1
  let c2048_i32 : BitVec 32 := 2048#32
  let v112 : BitVec 32 := Scalar.muli arg18 c2048_i32
  let v113 : BitVec 32 := v112
  let v114 : Index := Scalar.indexCast v113
  ![0, v114.toNat]
def k0_off2 (k0_t1 : Fin k0_t1_loop.trips) : Fin 2 → Nat :=
  let c0_56 : Index := 0#32
  let c0_i32_26 : BitVec 32 := 0#32
  let c1_i32 : BitVec 32 := 1#32
  let arg18 : BitVec 32 := Scf.iv c0_i32_26 c1_i32 k0_t1
  let c2048_i32 : BitVec 32 := 2048#32
  let v112 : BitVec 32 := Scalar.muli arg18 c2048_i32
  let v113 : BitVec 32 := v112
  let v118 : Index := Scalar.indexCast v113
  ![0, v118.toNat]
def k0_mult2 (i : grid0.Coords) : BitVec 32 :=
  let arg0 : BitVec 32 := BitVec.ofNat 32 (i 0).val
  let c512_i32 : BitVec 32 := 512#32
  let v3 : BitVec 32 := Scalar.muli arg0 c512_i32
  v3
def k0_off3 (i : grid0.Coords) : Fin 2 → Nat :=
  let arg0 : BitVec 32 := BitVec.ofNat 32 (i 0).val
  let c512_i32 : BitVec 32 := 512#32
  let v3 : BitVec 32 := Scalar.muli arg0 c512_i32
  let v4 : BitVec 32 := v3
  let v5 : Index := Scalar.indexCast v4
  let c0 : Index := 0#32
  ![v5.toNat, 0]
def k0_off4 (i : grid0.Coords) : Fin 2 → Nat :=
  let c0_14 : Index := 0#32
  let arg0 : BitVec 32 := BitVec.ofNat 32 (i 0).val
  let c512_i32 : BitVec 32 := 512#32
  let v3 : BitVec 32 := Scalar.muli arg0 c512_i32
  let v4 : BitVec 32 := v3
  let v20 : Index := Scalar.indexCast v4
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x18432 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x18432 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7168x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x18432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x18432 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2x128x7168 : Shape := ⟨3, ![2, 128, 7168]⟩
abbrev S2x128 : Shape := ⟨2, ![2, 128]⟩
abbrev S2x128x18432 : Shape := ⟨3, ![2, 128, 18432]⟩
abbrev S7168x18432 : Shape := ⟨2, ![7168, 18432]⟩
abbrev S18432 : Shape := ⟨1, ![18432]⟩
abbrev S7168x32 : Shape := ⟨2, ![7168, 32]⟩
abbrev S32x18432 : Shape := ⟨2, ![32, 18432]⟩
abbrev S256x7168 : Shape := ⟨2, ![256, 7168]⟩
abbrev S256x1 : Shape := ⟨2, ![256, 1]⟩
abbrev S256x18432 : Shape := ⟨2, ![256, 18432]⟩
abbrev S1x18432 : Shape := ⟨2, ![1, 18432]⟩
abbrev S256x32 : Shape := ⟨2, ![256, 32]⟩

abbrev nBuf : Space → Nat
  | .hbm => 20
  | .vmem => 13
  | .smem => 0
  | _ => 0

abbrev bufTy : (tb : Table) → Fin (tcTables nBuf tb) → BufTy
  | .hbm, ⟨0, _⟩ => ⟨S2x128x7168, .i8⟩
  | .hbm, ⟨1, _⟩ => ⟨S2x128, .f32⟩
  | .hbm, ⟨2, _⟩ => ⟨S2x128x18432, .i8⟩
  | .hbm, ⟨3, _⟩ => ⟨S2x128, .f32⟩
  | .hbm, ⟨4, _⟩ => ⟨S7168x18432, .fp8e4m3⟩
  | .hbm, ⟨5, _⟩ => ⟨S18432, .f32⟩
  | .hbm, ⟨6, _⟩ => ⟨S7168x32, .bf16⟩
  | .hbm, ⟨7, _⟩ => ⟨S32x18432, .bf16⟩
  | .hbm, ⟨8, _⟩ => ⟨S2x128x7168, .fp8e4m3⟩
  | .hbm, ⟨9, _⟩ => ⟨S2x128x18432, .fp8e5m2⟩
  | .hbm, ⟨10, _⟩ => ⟨S256x7168, .fp8e4m3⟩
  | .hbm, ⟨11, _⟩ => ⟨S256x1, .f32⟩
  | .hbm, ⟨12, _⟩ => ⟨S256x18432, .fp8e5m2⟩
  | .hbm, ⟨13, _⟩ => ⟨S256x1, .f32⟩
  | .hbm, ⟨14, _⟩ => ⟨S1x18432, .f32⟩
  | .hbm, ⟨15, _⟩ => ⟨S256x7168, .bf16⟩
  | .hbm, ⟨16, _⟩ => ⟨S7168x32, .f32⟩
  | .hbm, ⟨17, _⟩ => ⟨S32x18432, .f32⟩
  | .hbm, ⟨18, _⟩ => ⟨S256x32, .f32⟩
  | .hbm, ⟨19, _⟩ => ⟨S256x32, .f32⟩
  | .local _ .vmem, ⟨0, _⟩ => ⟨S256x7168, .fp8e4m3⟩
  | .local _ .vmem, ⟨1, _⟩ => ⟨S256x1, .f32⟩
  | .local _ .vmem, ⟨2, _⟩ => ⟨S256x18432, .fp8e5m2⟩
  | .local _ .vmem, ⟨3, _⟩ => ⟨S256x1, .f32⟩
  | .local _ .vmem, ⟨4, _⟩ => ⟨S7168x18432, .fp8e4m3⟩
  | .local _ .vmem, ⟨5, _⟩ => ⟨S1x18432, .f32⟩
  | .local _ .vmem, ⟨6, _⟩ => ⟨S7168x32, .bf16⟩
  | .local _ .vmem, ⟨7, _⟩ => ⟨S32x18432, .bf16⟩
  | .local _ .vmem, ⟨8, _⟩ => ⟨S256x7168, .bf16⟩
  | .local _ .vmem, ⟨9, _⟩ => ⟨S7168x32, .f32⟩
  | .local _ .vmem, ⟨10, _⟩ => ⟨S32x18432, .f32⟩
  | .local _ .vmem, ⟨11, _⟩ => ⟨S256x32, .f32⟩
  | .local _ .vmem, ⟨12, _⟩ => ⟨S256x32, .f32⟩
  | _, _ => ⟨S2x128x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x18432 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x18432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x18432 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x18432 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KVal.lean ====
/- What the kernel's body computes, named: the contents of the four scratch buffers, of the three results written at the
   first grid point, and of the two results written at every grid point, each as a function of the arguments' blocks; and
   the scratch that the nine-trip loop fills, read back after the loop. -/
module

public import proofs.«01_k».proof.Proof.Gen.KernelIdeal.Frame
public import proofs.«01_k».proof.Proof.Gen.KernelIdeal.Loops
public import Idealize.ShloMosaic.Lib.Pipeline.Value
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Row 0 and row 1 of a two-row scale. -/
def row0 (x : Vec F S2x128 .f32) : Vec F S1x128 .f32 := View.ld x (Rect.unit ![0, 0] S1x128.size inb_S2x128_S1x128_0_0)
def row1 (x : Vec F S2x128 .f32) : Vec F S1x128 .f32 := View.ld x (Rect.unit ![1, 0] S1x128.size inb_S2x128_S1x128_1_0)

theorem broadcasts_S1x18432_S256x18432 : S1x18432.Broadcasts S256x18432 := by decide

/-- Scratch 0: the gradient times the base weight's scale. -/
def S0 (x2 : Vec F S256x18432 .fp8e5m2) (x5 : Vec F S1x18432 .f32) : Vec F S256x18432 .bf16 :=
  mulf (extf .bf16 (x2 : FVec F _ _) bitsLt_fp8e5m2_bf16) (broadcastTo S256x18432 (truncf .bf16 (x5 : FVec F _ _) bitsLt_bf16_f32) broadcasts_S1x18432_S256x18432)
/-- Scratch 1: the three parts of twice `lora_b · dyᵀ`, transposed. -/
def S1 (x2 : Vec F S256x18432 .fp8e5m2) (x7 : Vec F S32x18432 .bf16) : Vec F S256x96 .bf16 := k0_pay15 (k0_pay4 x7 x2)
/-- Scratch 2: the three parts of `x_scale · t`. -/
def S2 (x1 : Vec F S2x128 .f32) (x2 : Vec F S256x18432 .fp8e5m2) (x3 : Vec F S2x128 .f32) (x7 : Vec F S32x18432 .bf16) : Vec F S96x256 .bf16 :=
  k0_pay16 (k0_pay2 (row0 x1) (row1 x1)) (k0_pay5 (row0 x3) (row1 x3) x7 x2)
/-- Scratch 3: the gradient's scale as a column. -/
def S3 (x3 : Vec F S2x128 .f32) : Vec F S256x128 .f32 := k0_pay18 (k0_pay17 (k0_pay1 (row0 x3) (row1 x3)))

/-- Result 1 at a grid point: its 512 columns of `dx`. -/
def DX (i : grid0.Coords) (x4 : Vec F S512x18432 .fp8e4m3) (x6 : Vec F S7168x32 .bf16) (s0 : Vec F S256x18432 .bf16) (s1 : Vec F S256x96 .bf16)
    (s3 : Vec F S256x128 .f32) : Vec F S256x512 .bf16 :=
  k0_pay19 (View.ld x6 (Rect.unit (k0_off3 i) S512x32.size (k0_off3_inb i))) s0 x4 s1
    (View.ld s3 (Rect.unit ![0, 0] S256x1.size inb_S256x128_S256x1_0_0))
/-- Result 2 at a grid point: its 512 rows of `dA`. -/
def DA (i : grid0.Coords) (x0 : Vec F S256x7168 .fp8e4m3) (s2 : Vec F S96x256 .bf16) : Vec F S512x32 .f32 :=
  k0_pay20 s2 (View.ld x0 (Rect.unit (k0_off4 i) S256x512.size (k0_off4_inb i)))
/-- Result 3: `dB`. -/
def DB (x0 : Vec F S256x7168 .fp8e4m3) (x1 : Vec F S2x128 .f32) (x2 : Vec F S256x18432 .fp8e5m2) (x3 : Vec F S2x128 .f32) (x6 : Vec F S7168x32 .bf16) :
    Vec F S32x18432 .f32 :=
  k0_pay14 (k0_pay10 (row0 x3) (row1 x3) (row0 x1) (row1 x1) x6 x0) (k0_pay12 (row0 x3) (row1 x3) (row0 x1) (row1 x1) x6 x0)
    (k0_pay13 (row0 x3) (row1 x3) (row0 x1) (row1 x1) x6 x0) x2
/-- Result 4: `t`. -/
def TT (x2 : Vec F S256x18432 .fp8e5m2) (x3 : Vec F S2x128 .f32) (x7 : Vec F S32x18432 .bf16) : Vec F S256x32 .f32 := k0_pay6 (row0 x3) (row1 x3) x7 x2
/-- Result 5: `xa`. -/
def XA (x0 : Vec F S256x7168 .fp8e4m3) (x1 : Vec F S2x128 .f32) (x6 : Vec F S7168x32 .bf16) : Vec F S256x32 .f32 := k0_pay8 (row0 x1) (row1 x1) x6 x0

/-! ## Reads of whole-buffer stores and loads -/

theorem read_store {sp : Space} {S : Shape} {e : EltTy} (v : View sig .tc sp S e) (f : v.ty.Contents (Elt F)) {off : Fin S.rank → Nat}
    (h : ∀ a, off a = 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero (View.eq_zero_of_forall h) inb y⟩).trans
    (View.canon_unit_zero (View.eq_zero_of_forall h) inb w)

theorem readCov_store {sp : Space} {S : Shape} {e : EltTy} (v : View sig .tc sp S e) {off : Fin S.rank → Nat}
    (h : ∀ a, off a = 0) (inb : ∀ a, off a + S.size a ≤ S.size a) (w : S.Idx → Elt F e) (r : Rect S) :
    v.readCov [(⟨Rect.unit off (no_index S.size) inb, w⟩ : View.Piece (Elt F) S e)] r = View.ld w r :=
  (View.readCov_eq_canon_ld v _ r fun y => ⟨_, List.mem_singleton_self _, View.mem_set_unit_zero (View.eq_zero_of_forall h) inb y⟩).trans
    (by rw [View.canon_unit_zero (View.eq_zero_of_forall h) inb w])

theorem hz2 : ∀ a : Fin 2, (![0, 0] : Fin 2 → Nat) a = 0 := by decide

theorem off2_eq : ∀ k : Fin k0_t1_loop.trips, k0_off2 k = ![0, 2048 * k.val] := by decide
theorem off1_eq : ∀ k : Fin k0_t1_loop.trips, k0_off1 k = ![0, 2048 * k.val] := by decide
theorem trips_eq : k0_t1_loop.trips = 9 := by decide

theorem mul512 (n : ℕ) (h : n < 14) : (BitVec.ofNat 32 n * 512#32).toNat = 512 * n := by
  rw [BitVec.toNat_mul, BitVec.toNat_ofNat, BitVec.toNat_ofNat]; omega
theorem off3_eq (i : grid0.Coords) : k0_off3 i = ![512 * (i 0).val, 0] := by
  show ![(BitVec.ofNat 32 (i 0).val * 512#32).toNat, 0] = _
  rw [mul512 _ (i 0).isLt]
theorem off4_eq (i : grid0.Coords) : k0_off4 i = ![0, 512 * (i 0).val] := by
  show ![0, (BitVec.ofNat 32 (i 0).val * 512#32).toNat] = _
  rw [mul512 _ (i 0).isLt]

/-! ## The scale loop -/

/-- A block of 2048 columns of scratch 0, computed from the same columns of the gradient and of the scale. -/
theorem pay3_block (x2 : Vec F S256x18432 .fp8e5m2) (x5 : Vec F S1x18432 .f32) (k : Fin k0_t1_loop.trips)
    (h1 : ∀ a, k0_off1 k a + S1x2048.size a ≤ S1x18432.size a) (h2 : ∀ a, k0_off2 k a + S256x2048.size a ≤ S256x18432.size a) :
    k0_pay3 (View.ld x5 (Rect.unit (k0_off1 k) S1x2048.size h1)) (View.ld x2 (Rect.unit (k0_off2 k) S256x2048.size h2))
      = View.ld (S0 x2 x5) (Rect.unit (k0_off2 k) S256x2048.size h2) := by
  funext z
  unfold k0_pay3 S0
  simp only [shapeCast_self]
  show FloatOps.mulf _ _ = FloatOps.mulf _ _
  congr 1
  show FloatOps.truncf .bf16 _ _ = FloatOps.truncf .bf16 _ _
  congr 1
  show x5 _ = x5 _
  congr 1
  funext a
  apply Fin.ext
  have e1 := congrFun (off1_eq k); have e2 := congrFun (off2_eq k)
  fin_cases a
  · show k0_off1 k 0 + 1 * 0 = 0
    rw [e1 0]; try rfl
  · show k0_off1 k 1 + 1 * (z 1).val = k0_off2 k 1 + 1 * (z 1).val
    rw [e1 1, e2 1]; try rfl

set_option maxHeartbeats 1000000 in
/-- What a trip of the loop stores. -/
theorem trip_eq (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x18432 .f32) (harg6 : arg6.IsWhole) (arg7 : Memref sig .tc .vmem S7168x32 .bf16) (harg7 : arg7.IsWhole) (arg8 : Memref sig .tc .vmem S32x18432 .bf16) (harg8 : arg8.IsWhole) (arg9 : Memref sig .tc .vmem S256x512 .bf16) (harg9 : arg9.IsWhole) (arg10 : Memref sig .tc .vmem S512x32 .f32) (harg10 : arg10.IsWhole) (arg11 : Memref sig .tc .vmem S32x18432 .f32) (harg11 : arg11.IsWhole) (arg12 : Memref sig .tc .vmem S256x32 .f32) (harg12 : arg12.IsWhole) (arg13 : Memref sig .tc .vmem S256x32 .f32) (harg13 : arg13.IsWhole) (arg14 : Memref sig .tc .vmem S256x18432 .bf16) (harg14 : arg14.IsWhole) (arg15 : Memref sig .tc .vmem S256x96 .bf16) (harg15 : arg15.IsWhole) (arg16 : Memref sig .tc .vmem S96x256 .bf16) (harg16 : arg16.IsWhole) (arg17 : Memref sig .tc .vmem S256x128 .f32) (harg17 : arg17.IsWhole) (h : k0_cond1 i = 1#1) (X3 : BufTy.Contents (Elt F) arg3.view.ty) (X6 : BufTy.Contents (Elt F) arg6.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X3 X6 k
      = [⟨Rect.unit (k0_off2 k) S256x2048.size (k0_off2_inb i k h),
          k0_pay3 (View.ld (arg6.view.read (Elt F) X6) (Rect.unit (k0_off1 k) S1x2048.size (k0_off1_inb i k h)))
            (View.ld (arg3.view.read (Elt F) X3) (Rect.unit (k0_off2 k) S256x2048.size (k0_off2_inb i k h)))⟩] := by
  unfold tripL_k0_t1 trip_k0_t1
  rfl

set_option maxHeartbeats 1000000 in
/-- After `n` trips the first `2048·n` columns hold scratch 0's contents. -/
theorem pb_read (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x18432 .f32) (harg6 : arg6.IsWhole) (arg7 : Memref sig .tc .vmem S7168x32 .bf16) (harg7 : arg7.IsWhole) (arg8 : Memref sig .tc .vmem S32x18432 .bf16) (harg8 : arg8.IsWhole) (arg9 : Memref sig .tc .vmem S256x512 .bf16) (harg9 : arg9.IsWhole) (arg10 : Memref sig .tc .vmem S512x32 .f32) (harg10 : arg10.IsWhole) (arg11 : Memref sig .tc .vmem S32x18432 .f32) (harg11 : arg11.IsWhole) (arg12 : Memref sig .tc .vmem S256x32 .f32) (harg12 : arg12.IsWhole) (arg13 : Memref sig .tc .vmem S256x32 .f32) (harg13 : arg13.IsWhole) (arg14 : Memref sig .tc .vmem S256x18432 .bf16) (harg14 : arg14.IsWhole) (arg15 : Memref sig .tc .vmem S256x96 .bf16) (harg15 : arg15.IsWhole) (arg16 : Memref sig .tc .vmem S96x256 .bf16) (harg16 : arg16.IsWhole) (arg17 : Memref sig .tc .vmem S256x128 .f32) (harg17 : arg17.IsWhole) (h : k0_cond1 i = 1#1) (X3 : BufTy.Contents (Elt F) arg3.view.ty) (X6 : BufTy.Contents (Elt F) arg6.view.ty) (f : BufTy.Contents (Elt F) arg14.view.ty) :
    ∀ n : ℕ, n ≤ k0_t1_loop.trips → ∀ y : S256x18432.Idx, (y 1).val < 2048 * n →
      arg14.view.read (Elt F) (arg14.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X3 X6 n)) y
        = S0 (arg3.view.read (Elt F) X3) (arg6.view.read (Elt F) X6) y
  | 0, _, y, hy => absurd hy (by omega)
  | n + 1, hn, y, hy => by
    have hk : n < k0_t1_loop.trips := hn
    rw [pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X3 X6 (⟨n, hk⟩ : Fin k0_t1_loop.trips), trip_eq]
    rw [List.singleton_append, pay3_block]
    by_cases hm : y ∈ (Rect.unit (s := S256x18432) (k0_off2 ⟨n, hk⟩) S256x2048.size (k0_off2_inb i ⟨n, hk⟩ h)).set
    · obtain ⟨x, rfl⟩ : ∃ x, (Rect.unit (s := S256x18432) (k0_off2 ⟨n, hk⟩) S256x2048.size (k0_off2_inb i ⟨n, hk⟩ h)).emb x = y :=
        (Rect.unit (s := S256x18432) (k0_off2 ⟨n, hk⟩) S256x2048.size (k0_off2_inb i ⟨n, hk⟩ h)).exists_idx_of_mem hm
      rw [View.read_writes_cons_emb]; rfl
    · rw [View.writes_cons, View.read_slice_write_of_not_mem _ _ _ _ (by rwa [Rect.map_emb_univ])]
      refine pb_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X3 X6 f n (Nat.le_of_lt hk) y ?_
      rw [Rect.mem_set_unit, off2_eq] at hm
      by_contra hlt
      apply hm
      intro a
      have h0 : (y 0).val < 256 := (y 0).isLt
      fin_cases a
      · exact ⟨Nat.zero_le _, by show (y 0).val < 0 + 256; omega⟩
      · exact ⟨by show 2048 * n ≤ (y 1).val; omega, by show (y 1).val < 2048 * n + 2048; omega⟩

/-- After the loop, scratch 0. -/
theorem pb_read_all (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x18432 .f32) (harg6 : arg6.IsWhole) (arg7 : Memref sig .tc .vmem S7168x32 .bf16) (harg7 : arg7.IsWhole) (arg8 : Memref sig .tc .vmem S32x18432 .bf16) (harg8 : arg8.IsWhole) (arg9 : Memref sig .tc .vmem S256x512 .bf16) (harg9 : arg9.IsWhole) (arg10 : Memref sig .tc .vmem S512x32 .f32) (harg10 : arg10.IsWhole) (arg11 : Memref sig .tc .vmem S32x18432 .f32) (harg11 : arg11.IsWhole) (arg12 : Memref sig .tc .vmem S256x32 .f32) (harg12 : arg12.IsWhole) (arg13 : Memref sig .tc .vmem S256x32 .f32) (harg13 : arg13.IsWhole) (arg14 : Memref sig .tc .vmem S256x18432 .bf16) (harg14 : arg14.IsWhole) (arg15 : Memref sig .tc .vmem S256x96 .bf16) (harg15 : arg15.IsWhole) (arg16 : Memref sig .tc .vmem S96x256 .bf16) (harg16 : arg16.IsWhole) (arg17 : Memref sig .tc .vmem S256x128 .f32) (harg17 : arg17.IsWhole) (h : k0_cond1 i = 1#1) (X3 : BufTy.Contents (Elt F) arg3.view.ty) (X6 : BufTy.Contents (Elt F) arg6.view.ty) (f : BufTy.Contents (Elt F) arg14.view.ty) :
      arg14.view.read (Elt F) (arg14.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X3 X6 (Scf.trips k0_t1_loop.lb k0_t1_loop.ub k0_t1_loop.st)))
        = S0 (arg3.view.read (Elt F) X3) (arg6.view.read (Elt F) X6) :=
  funext fun y => pb_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h X3 X6 f _ le_rfl y (by
    have h1 : (y 1).val < 18432 := (y 1).isLt
    have e : k0_t1_loop.trips = 9 := trips_eq
    rw [e]; omega)

end Cert.KernelIdeal.Hand
end
-- ==== Proof.KRun.lean ====
/- The body run once: at the first grid point and at a later one, with what every buffer holds afterwards named. -/
module

public import proofs.«01_k».proof.Proof.KVal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The test the body branches on: the first grid point. -/
abbrev cond0_0 (i : grid0.Coords) : Prop := k0_cond1 i = 1#1

set_option maxHeartbeats 2000000 in
/-- The body at a later grid point: it reads the scratch, writes its blocks of the first two results and leaves the others. -/
theorem runB (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x18432 .f32) (harg6 : arg6.IsWhole) (arg7 : Memref sig .tc .vmem S7168x32 .bf16) (harg7 : arg7.IsWhole) (arg8 : Memref sig .tc .vmem S32x18432 .bf16) (harg8 : arg8.IsWhole) (arg9 : Memref sig .tc .vmem S256x512 .bf16) (harg9 : arg9.IsWhole) (arg10 : Memref sig .tc .vmem S512x32 .f32) (harg10 : arg10.IsWhole) (arg11 : Memref sig .tc .vmem S32x18432 .f32) (harg11 : arg11.IsWhole) (arg12 : Memref sig .tc .vmem S256x32 .f32) (harg12 : arg12.IsWhole) (arg13 : Memref sig .tc .vmem S256x32 .f32) (harg13 : arg13.IsWhole) (arg14 : Memref sig .tc .vmem S256x18432 .bf16) (harg14 : arg14.IsWhole) (arg15 : Memref sig .tc .vmem S256x96 .bf16) (harg15 : arg15.IsWhole) (arg16 : Memref sig .tc .vmem S96x256 .bf16) (harg16 : arg16.IsWhole) (arg17 : Memref sig .tc .vmem S256x128 .f32) (harg17 : arg17.IsWhole) (hc0 : ¬ cond0_0 i) (x0 : Vec F S256x7168 .fp8e4m3) (x1 : Vec F S2x128 .f32) (x2 : Vec F S256x18432 .fp8e5m2) (x3 : Vec F S2x128 .f32) (x4 : Vec F S512x18432 .fp8e4m3) (x5 : Vec F S1x18432 .f32) (x6 : Vec F S7168x32 .bf16) (x7 : Vec F S32x18432 .bf16) (s0 : Vec F S256x18432 .bf16) (s1 : Vec F S256x96 .bf16) (s2 : Vec F S96x256 .bf16) (s3 : Vec F S256x128 .f32) (z0 : Vec F S32x18432 .f32) (z1 : Vec F S256x32 .f32) (z2 : Vec F S256x32 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare z0 ∗ owns (c : Thread nD τ) arg12 fullShare z1 ∗ owns (c : Thread nD τ) arg13 fullShare z2 ∗ owns (c : Thread nD τ) arg14 fullShare s0 ∗ owns (c : Thread nD τ) arg15 fullShare s1 ∗ owns (c : Thread nD τ) arg16 fullShare s2 ∗ owns (c : Thread nD τ) arg17 fullShare s3 ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (DX i x4 x6 s0 s1 s3) ∗ owns (c : Thread nD τ) arg10 fullShare (DA i x0 s2) ∗ owns (c : Thread nD τ) arg11 fullShare z0 ∗ owns (c : Thread nD τ) arg12 fullShare z1 ∗ owns (c : Thread nD τ) arg13 fullShare z2 ∗ owns (c : Thread nD τ) arg14 fullShare s0 ∗ owns (c : Thread nD τ) arg15 fullShare s1 ∗ owns (c : Thread nD τ) arg16 fullShare s2 ∗ owns (c : Thread nD τ) arg17 fullShare s3) -∗ K ⟨⟩))
      ⊢ wp frame (wpE (defs₀ (F := F)) Variants.none c none) E (cc0_lora_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_lora_backward_eq_skeleton]; unfold cc0_lora_backward_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  obtain rfl := harg11.eq_unread hf10; obtain rfl := harg12.eq_unread hf11; obtain rfl := harg13.eq_unread hf12; obtain rfl := harg14.eq_unread hfs0; obtain rfl := harg15.eq_unread hfs1; obtain rfl := harg16.eq_unread hfs2; obtain rfl := harg17.eq_unread hfs3
  sl_exec (disch := first | sl_exact hc0)
  sl_step
  iapply Hk
  isplitl [H0]
  · iexists _; isplitr; swap
    · iexact H0
    ipureintro
    exact harg1.read_unread _
  isplitl [H1]
  · iexists _; isplitr; swap
    · iexact H1
    ipureintro
    exact harg2.read_unread _
  isplitl [H2]
  · iexists _; isplitr; swap
    · iexact H2
    ipureintro
    exact harg3.read_unread _
  isplitl [H3]
  · iexists _; isplitr; swap
    · iexact H3
    ipureintro
    exact harg4.read_unread _
  isplitl [H4]
  · iexists _; isplitr; swap
    · iexact H4
    ipureintro
    exact harg5.read_unread _
  isplitl [H5]
  · iexists _; isplitr; swap
    · iexact H5
    ipureintro
    exact harg6.read_unread _
  isplitl [H6]
  · iexists _; isplitr; swap
    · iexact H6
    ipureintro
    exact harg7.read_unread _
  isplitl [H7]
  · iexists _; isplitr; swap
    · iexact H7
    ipureintro
    exact harg8.read_unread _
  isplitl [H8]
  · iexists _; isplitr; swap
    · iexact H8
    ipureintro
    rw [read_store _ _ hz2]; simp (disch := decide) only [View.readAt_eq_ld, Memref.IsWhole.read_unread, View.ld_unit_lit']; rfl
  isplitl [H9]
  · iexists _; isplitr; swap
    · iexact H9
    ipureintro
    rw [read_store _ _ hz2]; simp (disch := decide) only [View.readAt_eq_ld, Memref.IsWhole.read_unread, View.ld_unit_lit']; rfl
  isplitl [H10]
  · iexists _; isplitr; swap
    · iexact H10
    ipureintro
    exact harg11.read_unread _
  isplitl [H11]
  · iexists _; isplitr; swap
    · iexact H11
    ipureintro
    exact harg12.read_unread _
  isplitl [H12]
  · iexists _; isplitr; swap
    · iexact H12
    ipureintro
    exact harg13.read_unread _
  isplitl [HS0]
  · iexists _; isplitr; swap
    · iexact HS0
    ipureintro
    exact harg14.read_unread _
  isplitl [HS1]
  · iexists _; isplitr; swap
    · iexact HS1
    ipureintro
    exact harg15.read_unread _
  isplitl [HS2]
  · iexists _; isplitr; swap
    · iexact HS2
    ipureintro
    exact harg16.read_unread _
  iexists _; isplitr; swap
  · iexact HS3
  ipureintro
  exact harg17.read_unread _

set_option maxHeartbeats 2000000 in
/-- The body at the first grid point: it fills the scratch and writes all five results. -/
theorem runA (c : Dev nD) (i : grid0.Coords) (arg1 : Memref sig .tc .vmem S256x7168 .fp8e4m3) (harg1 : arg1.IsWhole) (arg2 : Memref sig .tc .vmem S2x128 .f32) (harg2 : arg2.IsWhole) (arg3 : Memref sig .tc .vmem S256x18432 .fp8e5m2) (harg3 : arg3.IsWhole) (arg4 : Memref sig .tc .vmem S2x128 .f32) (harg4 : arg4.IsWhole) (arg5 : Memref sig .tc .vmem S512x18432 .fp8e4m3) (harg5 : arg5.IsWhole) (arg6 : Memref sig .tc .vmem S1x18432 .f32) (harg6 : arg6.IsWhole) (arg7 : Memref sig .tc .vmem S7168x32 .bf16) (harg7 : arg7.IsWhole) (arg8 : Memref sig .tc .vmem S32x18432 .bf16) (harg8 : arg8.IsWhole) (arg9 : Memref sig .tc .vmem S256x512 .bf16) (harg9 : arg9.IsWhole) (arg10 : Memref sig .tc .vmem S512x32 .f32) (harg10 : arg10.IsWhole) (arg11 : Memref sig .tc .vmem S32x18432 .f32) (harg11 : arg11.IsWhole) (arg12 : Memref sig .tc .vmem S256x32 .f32) (harg12 : arg12.IsWhole) (arg13 : Memref sig .tc .vmem S256x32 .f32) (harg13 : arg13.IsWhole) (arg14 : Memref sig .tc .vmem S256x18432 .bf16) (harg14 : arg14.IsWhole) (arg15 : Memref sig .tc .vmem S256x96 .bf16) (harg15 : arg15.IsWhole) (arg16 : Memref sig .tc .vmem S96x256 .bf16) (harg16 : arg16.IsWhole) (arg17 : Memref sig .tc .vmem S256x128 .f32) (harg17 : arg17.IsWhole) (hc0 : cond0_0 i) (x0 : Vec F S256x7168 .fp8e4m3) (x1 : Vec F S2x128 .f32) (x2 : Vec F S256x18432 .fp8e5m2) (x3 : Vec F S2x128 .f32) (x4 : Vec F S512x18432 .fp8e4m3) (x5 : Vec F S1x18432 .f32) (x6 : Vec F S7168x32 .bf16) (x7 : Vec F S32x18432 .bf16)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (DX i x4 x6 (S0 x2 x5) (S1 x2 x7) (S3 x3)) ∗ owns (c : Thread nD τ) arg10 fullShare (DA i x0 (S2 x1 x2 x3 x7)) ∗ owns (c : Thread nD τ) arg11 fullShare (DB x0 x1 x2 x3 x6) ∗ owns (c : Thread nD τ) arg12 fullShare (TT x2 x3 x7) ∗ owns (c : Thread nD τ) arg13 fullShare (XA x0 x1 x6) ∗ owns (c : Thread nD τ) arg14 fullShare (S0 x2 x5) ∗ owns (c : Thread nD τ) arg15 fullShare (S1 x2 x7) ∗ owns (c : Thread nD τ) arg16 fullShare (S2 x1 x2 x3 x7) ∗ owns (c : Thread nD τ) arg17 fullShare (S3 x3)) -∗ K ⟨⟩))
      ⊢ wp frame (wpE (defs₀ (F := F)) Variants.none c none) E (cc0_lora_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_lora_backward_eq_skeleton]; unfold cc0_lora_backward_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  skip
  sl_exec (disch := first | sl_exact hc0)
  sl_step
  iapply Hk
  isplitl [H0]
  · iexists _; isplitr; swap
    · iexact H0
    ipureintro
    exact harg1.read_unread _
  isplitl [H1]
  · iexists _; isplitr; swap
    · iexact H1
    ipureintro
    exact harg2.read_unread _
  isplitl [H2]
  · iexists _; isplitr; swap
    · iexact H2
    ipureintro
    exact harg3.read_unread _
  isplitl [H3]
  · iexists _; isplitr; swap
    · iexact H3
    ipureintro
    exact harg4.read_unread _
  isplitl [H4]
  · iexists _; isplitr; swap
    · iexact H4
    ipureintro
    exact harg5.read_unread _
  isplitl [H5]
  · iexists _; isplitr; swap
    · iexact H5
    ipureintro
    exact harg6.read_unread _
  isplitl [H6]
  · iexists _; isplitr; swap
    · iexact H6
    ipureintro
    exact harg7.read_unread _
  isplitl [H7]
  · iexists _; isplitr; swap
    · iexact H7
    ipureintro
    exact harg8.read_unread _
  isplitl [H8]
  · iexists _; isplitr; swap
    · iexact H8
    ipureintro
    rw [read_store _ _ hz2]; (try delta runA.sl.v8); (try delta runA.sl.v11); (try delta runA.sl.v14); (try delta runA.sl.v19); (try delta runA.sl.HS1_1); (try delta runA.sl.HS2_1); (try delta runA.sl.HS3_1); (try delta runA.sl.r_7); (try delta runA.sl.r); (try delta runA.sl.r_1); (try delta runA.sl.r_2); (try delta runA.sl.r_3); (try delta runA.sl.r_4); (try delta runA.sl.r_5); (try delta runA.sl.r_6); (simp (disch := decide) only [readCov_store, View.readAt_eq_ld, Memref.IsWhole.read_unread, View.ld_unit_lit', pb_read_all]);
    have e := pb_read_all (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 (harg3.unread x2) (harg6.unread x5) fs0
    rw [harg3.read_unread, harg6.read_unread] at e
    exact congrArg (fun z => k0_pay19 _ z _ _ _) e
  isplitl [H9]
  · iexists _; isplitr; swap
    · iexact H9
    ipureintro
    rw [read_store _ _ hz2]; (try delta runA.sl.v8); (try delta runA.sl.v11); (try delta runA.sl.v14); (try delta runA.sl.v19); (try delta runA.sl.HS1_1); (try delta runA.sl.HS2_1); (try delta runA.sl.HS3_1); (try delta runA.sl.r_7); (try delta runA.sl.r); (try delta runA.sl.r_1); (try delta runA.sl.r_2); (try delta runA.sl.r_3); (try delta runA.sl.r_4); (try delta runA.sl.r_5); (try delta runA.sl.r_6); (simp (disch := decide) only [readCov_store, View.readAt_eq_ld, Memref.IsWhole.read_unread, View.ld_unit_lit', pb_read_all]); rfl
  isplitl [H10]
  · iexists _; isplitr; swap
    · iexact H10
    ipureintro
    rw [read_store _ _ hz2]; (try delta runA.sl.v8); (try delta runA.sl.v11); (try delta runA.sl.v14); (try delta runA.sl.v19); (try delta runA.sl.HS1_1); (try delta runA.sl.HS2_1); (try delta runA.sl.HS3_1); (try delta runA.sl.r_7); (try delta runA.sl.r); (try delta runA.sl.r_1); (try delta runA.sl.r_2); (try delta runA.sl.r_3); (try delta runA.sl.r_4); (try delta runA.sl.r_5); (try delta runA.sl.r_6); (simp (disch := decide) only [readCov_store, View.readAt_eq_ld, Memref.IsWhole.read_unread, View.ld_unit_lit', pb_read_all]); rfl
  isplitl [H11]
  · iexists _; isplitr; swap
    · iexact H11
    ipureintro
    rw [read_store _ _ hz2]; (try delta runA.sl.v8); (try delta runA.sl.v11); (try delta runA.sl.v14); (try delta runA.sl.v19); (try delta runA.sl.HS1_1); (try delta runA.sl.HS2_1); (try delta runA.sl.HS3_1); (try delta runA.sl.r_7); (try delta runA.sl.r); (try delta runA.sl.r_1); (try delta runA.sl.r_2); (try delta runA.sl.r_3); (try delta runA.sl.r_4); (try delta runA.sl.r_5); (try delta runA.sl.r_6); (simp (disch := decide) only [readCov_store, View.readAt_eq_ld, Memref.IsWhole.read_unread, View.ld_unit_lit', pb_read_all]); rfl
  isplitl [H12]
  · iexists _; isplitr; swap
    · iexact H12
    ipureintro
    rw [read_store _ _ hz2]; (try delta runA.sl.v8); (try delta runA.sl.v11); (try delta runA.sl.v14); (try delta runA.sl.v19); (try delta runA.sl.HS1_1); (try delta runA.sl.HS2_1); (try delta runA.sl.HS3_1); (try delta runA.sl.r_7); (try delta runA.sl.r); (try delta runA.sl.r_1); (try delta runA.sl.r_2); (try delta runA.sl.r_3); (try delta runA.sl.r_4); (try delta runA.sl.r_5); (try delta runA.sl.r_6); (simp (disch := decide) only [readCov_store, View.readAt_eq_ld, Memref.IsWhole.read_unread, View.ld_unit_lit', pb_read_all]); rfl
  isplitl [HS0]
  · iexists _; isplitr; swap
    · iexact HS0
    ipureintro
    rw [pb_read_all, harg3.read_unread, harg6.read_unread]
  isplitl [HS1]
  · iexists _; isplitr; swap
    · iexact HS1
    ipureintro
    delta runA.sl.HS1_1; rw [read_store _ _ hz2]; (try delta runA.sl.v8); (try delta runA.sl.v11); (try delta runA.sl.v14); (try delta runA.sl.v19); (try delta runA.sl.HS1_1); (try delta runA.sl.HS2_1); (try delta runA.sl.HS3_1); (try delta runA.sl.r_7); (try delta runA.sl.r); (try delta runA.sl.r_1); (try delta runA.sl.r_2); (try delta runA.sl.r_3); (try delta runA.sl.r_4); (try delta runA.sl.r_5); (try delta runA.sl.r_6); (simp (disch := decide) only [readCov_store, View.readAt_eq_ld, Memref.IsWhole.read_unread, View.ld_unit_lit', pb_read_all]); rfl
  isplitl [HS2]
  · iexists _; isplitr; swap
    · iexact HS2
    ipureintro
    delta runA.sl.HS2_1; rw [read_store _ _ hz2]; (try delta runA.sl.v8); (try delta runA.sl.v11); (try delta runA.sl.v14); (try delta runA.sl.v19); (try delta runA.sl.HS1_1); (try delta runA.sl.HS2_1); (try delta runA.sl.HS3_1); (try delta runA.sl.r_7); (try delta runA.sl.r); (try delta runA.sl.r_1); (try delta runA.sl.r_2); (try delta runA.sl.r_3); (try delta runA.sl.r_4); (try delta runA.sl.r_5); (try delta runA.sl.r_6); (simp (disch := decide) only [readCov_store, View.readAt_eq_ld, Memref.IsWhole.read_unread, View.ld_unit_lit', pb_read_all]); rfl
  iexists _; isplitr; swap
  · iexact HS3
  ipureintro
  delta runA.sl.HS3_1; rw [read_store _ _ hz2]; (try delta runA.sl.v8); (try delta runA.sl.v11); (try delta runA.sl.v14); (try delta runA.sl.v19); (try delta runA.sl.HS1_1); (try delta runA.sl.HS2_1); (try delta runA.sl.HS3_1); (try delta runA.sl.r_7); (try delta runA.sl.r); (try delta runA.sl.r_1); (try delta runA.sl.r_2); (try delta runA.sl.r_3); (try delta runA.sl.r_4); (try delta runA.sl.r_5); (try delta runA.sl.r_6); (simp (disch := decide) only [readCov_store, View.readAt_eq_ld, Memref.IsWhole.read_unread, View.ld_unit_lit', pb_read_all]); rfl

end Cert.KernelIdeal.Hand
end
-- ==== Proof.KFrame.lean ====
/- The kernel as a pipeline: what every window and the scratch hold point by point, and the run of the whole program. -/
module

public import proofs.«01_k».proof.Proof.KRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Each window's current staging memref at point `t`, spelled as the pipeline passes it (`bodyAt0`), and its wholeness. -/
abbrev ms0_0 (t : Fin cfg0.N) : Memref sig .tc .vmem S256x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x18432 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x18432 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x18432 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S7168x32 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x18432 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x18432 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x32 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x18432 .bf16 := Memref.whole cc0_scratch0
abbrev scM0_1 : Memref sig .tc .vmem S256x96 .bf16 := Memref.whole cc0_scratch1
abbrev scM0_2 : Memref sig .tc .vmem S96x256 .bf16 := Memref.whole cc0_scratch2
abbrev scM0_3 : Memref sig .tc .vmem S256x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-! ## What the buffers hold -/

/-- The first grid point. -/
def t0 : Fin cfg0.N := ⟨0, by rw [show cfg0.N = 14 from N_0]; decide⟩

/-- The block of window 0, the same at every point: the whole array. -/
def bk0 (c : Dev nD) : Vec F S256x7168 .fp8e4m3 := iblk m c 0 t0
theorem iblk_0 (c : Dev nD) (t : Fin cfg0.N) : iblk m c 0 t = bk0 m c := rfl
/-- The block of window 1, the same at every point: the whole array. -/
def bk1 (c : Dev nD) : Vec F S2x128 .f32 := iblk m c 1 t0
theorem iblk_1 (c : Dev nD) (t : Fin cfg0.N) : iblk m c 1 t = bk1 m c := rfl
/-- The block of window 2, the same at every point: the whole array. -/
def bk2 (c : Dev nD) : Vec F S256x18432 .fp8e5m2 := iblk m c 2 t0
theorem iblk_2 (c : Dev nD) (t : Fin cfg0.N) : iblk m c 2 t = bk2 m c := rfl
/-- The block of window 3, the same at every point: the whole array. -/
def bk3 (c : Dev nD) : Vec F S2x128 .f32 := iblk m c 3 t0
theorem iblk_3 (c : Dev nD) (t : Fin cfg0.N) : iblk m c 3 t = bk3 m c := rfl
/-- The block of window 5, the same at every point: the whole array. -/
def bk5 (c : Dev nD) : Vec F S1x18432 .f32 := iblk m c 5 t0
theorem iblk_5 (c : Dev nD) (t : Fin cfg0.N) : iblk m c 5 t = bk5 m c := rfl
/-- The block of window 6, the same at every point: the whole array. -/
def bk6 (c : Dev nD) : Vec F S7168x32 .bf16 := iblk m c 6 t0
theorem iblk_6 (c : Dev nD) (t : Fin cfg0.N) : iblk m c 6 t = bk6 m c := rfl
/-- The block of window 7, the same at every point: the whole array. -/
def bk7 (c : Dev nD) : Vec F S32x18432 .bf16 := iblk m c 7 t0
theorem iblk_7 (c : Dev nD) (t : Fin cfg0.N) : iblk m c 7 t = bk7 m c := rfl
/-- The block of window 4 at a point: 512 rows of the base weight. -/
def bk4 (c : Dev nD) (t : Fin cfg0.N) : Vec F S512x18432 .fp8e4m3 := iblk m c 4 t

/-- The block of the first result at a point. -/
def dxAt (c : Dev nD) (t : Fin cfg0.N) : Vec F S256x512 .bf16 :=
  DX (grid0.coords t) (bk4 m c t) (bk6 m c) (S0 (bk2 m c) (bk5 m c)) (S1 (bk2 m c) (bk7 m c)) (S3 (bk3 m c))
/-- The block of the second result at a point. -/
def daAt (c : Dev nD) (t : Fin cfg0.N) : Vec F S512x32 .f32 := DA (grid0.coords t) (bk0 m c) (S2 (bk1 m c) (bk2 m c) (bk3 m c) (bk7 m c))
/-- The third result. -/
def dbAt (c : Dev nD) : Vec F S32x18432 .f32 := DB (bk0 m c) (bk1 m c) (bk2 m c) (bk3 m c) (bk6 m c)
/-- The fourth result. -/
def ttAt (c : Dev nD) : Vec F S256x32 .f32 := TT (bk2 m c) (bk3 m c) (bk7 m c)
/-- The fifth result. -/
def xaAt (c : Dev nD) : Vec F S256x32 .f32 := XA (bk0 m c) (bk1 m c) (bk6 m c)

/-- The scratch after the first point, with the random generator's register. -/
def scr (c : Dev nD) : sProp 𝕄 :=
  iprop((owns (c : Thread nD τ) scM0_0 fullShare (S0 (bk2 m c) (bk5 m c)) ∗ owns (c : Thread nD τ) scM0_1 fullShare (S1 (bk2 m c) (bk7 m c)) ∗ owns (c : Thread nD τ) scM0_2 fullShare (S2 (bk1 m c) (bk2 m c) (bk3 m c) (bk7 m c)) ∗ owns (c : Thread nD τ) scM0_3 fullShare (S3 (bk3 m c))) ∗ (∃ r, prngReg c r))

/-- What the pipeline carries, point by point: before the first point the scratch holds anything, after it what the first
    point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxAt m c t
    | ⟨9, _⟩ => daAt m c t
    | ⟨10, _⟩ => dbAt m c
    | ⟨11, _⟩ => ttAt m c
    | ⟨12, _⟩ => xaAt m c
  Φ t := if t.val = 0 then Pipeline.ΦA spec0 c else scr m c
  q _ := fullShare
  owed _ := 0

theorem A_eq (c : Dev nD) (w : Fin cfg0.W) : (dats m 0 c).A w = V m c (Pipeline.arrRef spec0 w) := by
  dsimp only [dats]

theorem Phi_pos (c : Dev nD) (n : Fin (cfg0.N + 1)) (h : n.val ≠ 0) : (dats m 0 c).Φ n = scr m c := by
  dsimp only [dats]; rw [if_neg h]
theorem Phi_zero (c : Dev nD) (n : Fin (cfg0.N + 1)) (h : n.val = 0) : (dats m 0 c).Φ n = Pipeline.ΦA spec0 c := by
  dsimp only [dats]; rw [if_pos h]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dxAt m c t := by dsimp only [dats]
theorem after0_9 (c : Dev nD) (t : Fin cfg0.N) : (dats m 0 c).after 9 t = daAt m c t := by dsimp only [dats]
theorem after0_10 (c : Dev nD) (t : Fin cfg0.N) : (dats m 0 c).after 10 t = dbAt m c := by dsimp only [dats]
theorem after0_11 (c : Dev nD) (t : Fin cfg0.N) : (dats m 0 c).after 11 t = ttAt m c := by dsimp only [dats]
theorem after0_12 (c : Dev nD) (t : Fin cfg0.N) : (dats m 0 c).after 12 t = xaAt m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- An output the first point fills, which later points leave alone, holds at every later point what the first one wrote. -/
theorem before_hold {c : Dev nD} (dat : Dat τ (Elt F) Unit ℕ (UR sig nD τ) ℕ cfg0 c) (w : Fin cfg0.W)
    (v : (cfg0.win w).block.Idx → Elt F (cfg0.win w).elt) (hfe : ∀ t, (cfg0.win w).fetch t = false)
    (hfl : ∀ t, (cfg0.win w).flush t = true → t.val % 14 = 13) (hi : cfg0.idle w (cfg0.grid.coords t0) = false)
    (hk : ∀ t d, dat.kept w t d = v) (d) :
    ∀ (n : ℕ) (h : n < cfg0.N), n ≠ 0 → dat.before w ⟨n, h⟩ d = v := by
  intro n
  induction n with
  | zero => intro _ h; exact absurd rfl h
  | succ n ih =>
    intro h _
    have hN : n + 1 < 14 := lt_of_lt_of_eq h (show cfg0.N = 14 from N_0)
    rw [dat.before_of_pos w ⟨n + 1, h⟩ (Nat.succ_ne_zero n) (hfe _) d]
    have e : (⟨n + 1 - 1, Nat.lt_of_le_of_lt (Nat.sub_le _ _) h⟩ : Fin cfg0.N) = ⟨n, Nat.lt_of_succ_lt h⟩ := rfl
    rw [e, if_neg (fun hf => by have := hfl _ hf; simp only at this; omega)]
    unfold Dat.left
    by_cases hn : n = 0
    · subst hn
      rw [show cfg0.idle w (cfg0.grid.coords ⟨0, Nat.lt_of_succ_lt h⟩) = false from hi]
      exact hk _ _
    · cases cfg0.idle w (cfg0.grid.coords ⟨n, Nat.lt_of_succ_lt h⟩) with
      | true => exact ih _ hn
      | false => exact hk _ _

theorem cond_t0 : cond0_0 (grid0.coords t0) := (hcond0_0 t0).mpr rfl

theorem idle_10 (t : Fin cfg0.N) : cfg0.idle 10 (grid0.coords t) = !(k0_cond1 (grid0.coords t) == 1#1) := rfl
theorem before0_10 (c : Dev nD) (t : Fin cfg0.N) (ht : t.val ≠ 0) (d) : (dats m 0 c).before 10 t d = dbAt m c :=
  before_hold (dats m 0 c) 10 (dbAt m c) (fun _ => rfl) (fun t h => (flush0_10 t).mp h)
    (by have h := cond_t0; rw [idle_10, show k0_cond1 (grid0.coords t0) = 1#1 from h]; rfl) (fun t d => by dsimp only [Dat.kept, dats]; rfl) d t.val t.isLt ht
theorem leaves0_10 (c : Dev nD) (t : Fin cfg0.N) : owns (c : Thread nD τ) (ms0_10 t) fullShare (dbAt m c) ⊢ ((dats m 0 c).leavesExact 10 t : sProp 𝕄) := by
  by_cases h0 : t.val % 14 = 0
  · unfold Dat.leavesExact
    rw [show cfg0.idle 10 (cfg0.grid.coords t) = false from by
      rw [idle_10, show k0_cond1 (grid0.coords t) = 1#1 from (hcond0_0 t).mpr h0]; rfl]
    simp only [after0_10]; exact .rfl
  · unfold Dat.leavesExact
    have hi : cfg0.idle 10 (cfg0.grid.coords t) = true := by
      have h := mt (hcond0_0 t).mp h0
      rw [idle_10]; simpa [cond0_0] using h
    rw [hi]
    cases hf : (cfg0.win 10).flush t
    · simp only
      iintro H
      iexists (fun _ => default)
      rw [before0_10 m c t (fun h => h0 (by rw [h]))]
      iexact H
    · simp only [after0_10]; exact .rfl
theorem idle_11 (t : Fin cfg0.N) : cfg0.idle 11 (grid0.coords t) = !(k0_cond1 (grid0.coords t) == 1#1) := rfl
theorem before0_11 (c : Dev nD) (t : Fin cfg0.N) (ht : t.val ≠ 0) (d) : (dats m 0 c).before 11 t d = ttAt m c :=
  before_hold (dats m 0 c) 11 (ttAt m c) (fun _ => rfl) (fun t h => (flush0_11 t).mp h)
    (by have h := cond_t0; rw [idle_11, show k0_cond1 (grid0.coords t0) = 1#1 from h]; rfl) (fun t d => by dsimp only [Dat.kept, dats]; rfl) d t.val t.isLt ht
theorem leaves0_11 (c : Dev nD) (t : Fin cfg0.N) : owns (c : Thread nD τ) (ms0_11 t) fullShare (ttAt m c) ⊢ ((dats m 0 c).leavesExact 11 t : sProp 𝕄) := by
  by_cases h0 : t.val % 14 = 0
  · unfold Dat.leavesExact
    rw [show cfg0.idle 11 (cfg0.grid.coords t) = false from by
      rw [idle_11, show k0_cond1 (grid0.coords t) = 1#1 from (hcond0_0 t).mpr h0]; rfl]
    simp only [after0_11]; exact .rfl
  · unfold Dat.leavesExact
    have hi : cfg0.idle 11 (cfg0.grid.coords t) = true := by
      have h := mt (hcond0_0 t).mp h0
      rw [idle_11]; simpa [cond0_0] using h
    rw [hi]
    cases hf : (cfg0.win 11).flush t
    · simp only
      iintro H
      iexists (fun _ => default)
      rw [before0_11 m c t (fun h => h0 (by rw [h]))]
      iexact H
    · simp only [after0_11]; exact .rfl
theorem idle_12 (t : Fin cfg0.N) : cfg0.idle 12 (grid0.coords t) = !(k0_cond1 (grid0.coords t) == 1#1) := rfl
theorem before0_12 (c : Dev nD) (t : Fin cfg0.N) (ht : t.val ≠ 0) (d) : (dats m 0 c).before 12 t d = xaAt m c :=
  before_hold (dats m 0 c) 12 (xaAt m c) (fun _ => rfl) (fun t h => (flush0_12 t).mp h)
    (by have h := cond_t0; rw [idle_12, show k0_cond1 (grid0.coords t0) = 1#1 from h]; rfl) (fun t d => by dsimp only [Dat.kept, dats]; rfl) d t.val t.isLt ht
theorem leaves0_12 (c : Dev nD) (t : Fin cfg0.N) : owns (c : Thread nD τ) (ms0_12 t) fullShare (xaAt m c) ⊢ ((dats m 0 c).leavesExact 12 t : sProp 𝕄) := by
  by_cases h0 : t.val % 14 = 0
  · unfold Dat.leavesExact
    rw [show cfg0.idle 12 (cfg0.grid.coords t) = false from by
      rw [idle_12, show k0_cond1 (grid0.coords t) = 1#1 from (hcond0_0 t).mpr h0]; rfl]
    simp only [after0_12]; exact .rfl
  · unfold Dat.leavesExact
    have hi : cfg0.idle 12 (cfg0.grid.coords t) = true := by
      have h := mt (hcond0_0 t).mp h0
      rw [idle_12]; simpa [cond0_0] using h
    rw [hi]
    cases hf : (cfg0.win 12).flush t
    · simp only
      iintro H
      iexists (fun _ => default)
      rw [before0_12 m c t (fun h => h0 (by rw [h]))]
      iexact H
    · simp only [after0_12]; exact .rfl

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]
theorem leaves0_8 (c : Dev nD) (t : Fin cfg0.N) : (dats m 0 c).leavesExact 8 t = owns (c : Thread nD τ) (ms0_8 t) fullShare (dxAt m c t) := by
  unfold Dat.leavesExact; rw [show cfg0.idle 8 (cfg0.grid.coords t) = false from rfl, after0_8]
theorem leaves0_9 (c : Dev nD) (t : Fin cfg0.N) : (dats m 0 c).leavesExact 9 t = owns (c : Thread nD τ) (ms0_9 t) fullShare (daAt m c t) := by
  unfold Dat.leavesExact; rw [show cfg0.idle 9 (cfg0.grid.coords t) = false from rfl, after0_9]

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = scr m c from Phi_pos m c _ (Nat.succ_ne_zero _)]
  have hN : t.val < 14 := lt_of_lt_of_eq t.isLt (show cfg0.N = 14 from N_0)
  rw [leaves0_0, leaves0_1, leaves0_2, leaves0_3, leaves0_4, leaves0_5, leaves0_6, leaves0_7, leaves0_8, leaves0_9]
  by_cases h0 : t.val % 14 = 0
  · rw [Phi_zero m c t.castSucc (show t.val = 0 by omega), PhiA0_eq]
    unfold scr dxAt daAt
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves0_10 m c t); iexact H10
    isplitl [H11]; · iapply (leaves0_11 m c t); iexact H11
    iapply (leaves0_12 m c t); iexact H12
  · rw [Phi_pos m c t.castSucc (show t.val ≠ 0 by intro h; exact h0 (by rw [h]))]
    have ht : t.val ≠ 0 := fun h => h0 (by rw [h])
    simp only [before0_10 m c t ht, before0_11 m c t ht, before0_12 m c t ht]
    unfold scr dxAt daAt
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords t) _ _ _ _ _ _ _ _ _ _ _ _ _ _ _ _ _ _ _ _ _ _ _ _ _ _ _ _ _ _ _ _ _ _ (mt (hcond0_0 t).mp h0) (iblk m c 0 t) (iblk m c 1 t) (iblk m c 2 t) (iblk m c 3 t) (iblk m c 4 t) (iblk m c 5 t) (iblk m c 6 t) (iblk m c 7 t) (S0 (bk2 m c) (bk5 m c)) (S1 (bk2 m c) (bk7 m c)) (S2 (bk1 m c) (bk2 m c) (bk3 m c) (bk7 m c)) (S3 (bk3 m c)) (dbAt m c) (ttAt m c) (xaAt m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves0_10 m c t); iexact H10
    isplitl [H11]; · iapply (leaves0_11 m c t); iexact H11
    iapply (leaves0_12 m c t); iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole program: every array at what its windows' blocks leave in it, and every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl)
    (hout := fun c => by
      rw [show (dats m 0 c).Φ (Fin.last (cfgs 0).N) = scr m c from Phi_pos m c _ (by rw [Fin.val_last, show (cfgs 0).N = 14 from N_0]; decide), PhiA0_eq]
      unfold scr
      iintro ⟨⟨HS0, HS1, HS2, HS3⟩, Hg⟩
      isplitl [HS0 HS1 HS2 HS3]
      · isplitl [HS0]; · iexists _; iexact HS0
        isplitl [HS1]; · iexists _; iexact HS1
        isplitl [HS2]; · iexists _; iexact HS2
        iexists _; iexact HS3
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The program ends, its argument arrays are as they were and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand
end
-- ==== Proof.KBits.lean ====
/- The frame of the kernel as printed: the idealized program, no operation of which is rewritten, has the same text. -/
module

public import proofs.«01_k».proof.Kernel
public import proofs.«01_k».proof.Proof.Gen.Kernel
public import proofs.«01_k».proof.Proof.KFrame

@[expose] public section

set_option maxRecDepth 16384

noncomputable section

namespace Cert.Kernel.Hand

open Idealize.ShloMosaic Idealize.SL.Sem

variable {F : FTy → Type} [FloatOps F]

/-- The two programs' body tables are the same. -/
theorem defs₀_eq : Cert.Kernel.defs₀ (F := F) = Cert.KernelIdeal.defs₀ (F := F) := by
  funext p
  cases p with
  | tc =>
    funext l a
    match l, a with
    | 0, (t, s) =>
      rfl
  | scScalar _ => rfl
  | scVector _ _ => rfl

theorem defs_eq : Cert.Kernel.defs (F := F) = Cert.KernelIdeal.defs (F := F) :=
  congrArg (Pipeline.defs Cert.Kernel.pcfgs) defs₀_eq

theorem main_eq : Cert.Kernel.main (F := F) = Cert.KernelIdeal.main (F := F) := rfl

/-- The program ends, its argument arrays are as they were and every semaphore is at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [main_eq]
  exact (congrArg (fun D => θ_run D (onTc (τ := τ) (Cert.KernelIdeal.main (F := F))) ⟨m, fun _ => 0, ρ⟩ _) defs_eq).mpr (Cert.KernelIdeal.Hand.frame (F := F) m ρ)

end Cert.Kernel.Hand
end
-- ==== Proof.Alg.lean ====
/- Extended-real arithmetic of the proof: finite values, their splits, and the rearrangements that hold when only some
   of the factors are finite. -/
module

public import Mathlib.Data.EReal.Inv
public import Mathlib.Algebra.BigOperators.Ring.Finset

@[expose] public section

namespace Cert.Val

open scoped BigOperators

/-- A finite extended real. -/
def Re (x : EReal) : Prop := ∃ r : ℝ, (r : EReal) = x

theorem Re.of_ne {x : EReal} (h1 : x ≠ ⊤) (h2 : x ≠ ⊥) : Re x := ⟨x.toReal, EReal.coe_toReal h1 h2⟩
theorem Re.zero : Re 0 := ⟨0, rfl⟩
theorem Re.mul {x y : EReal} (hx : Re x) (hy : Re y) : Re (x * y) := by
  obtain ⟨a, rfl⟩ := hx; obtain ⟨b, rfl⟩ := hy; exact ⟨a * b, EReal.coe_mul a b⟩
theorem Re.add {x y : EReal} (hx : Re x) (hy : Re y) : Re (x + y) := by
  obtain ⟨a, rfl⟩ := hx; obtain ⟨b, rfl⟩ := hy; exact ⟨a + b, EReal.coe_add a b⟩
theorem Re.sum {ι : Type*} (s : Finset ι) {f : ι → EReal} (h : ∀ i, Re (f i)) : Re (∑ i ∈ s, f i) := by
  classical
  induction s using Finset.induction_on with
  | empty => exact ⟨0, rfl⟩
  | insert a s ha ih => rw [Finset.sum_insert ha]; exact (h a).add ih

/-- The rest that a finite value leaves when it is split off itself. -/
theorem Re.sub_self {x : EReal} (hx : Re x) : x - x = 0 := by
  obtain ⟨a, rfl⟩ := hx; rw [← EReal.coe_sub, _root_.sub_self]; rfl

/-- A finite factor distributes over a sum. -/
theorem Re.mul_sum {ι : Type*} (s : Finset ι) {x : EReal} (hx : Re x) {f : ι → EReal} (h : ∀ i, Re (f i)) :
    x * ∑ i ∈ s, f i = ∑ i ∈ s, x * f i := by
  classical
  obtain ⟨a, rfl⟩ := hx
  choose g hg using h
  obtain rfl : (fun i => (g i : EReal)) = f := funext hg
  induction s using Finset.induction_on with
  | empty => simp
  | insert i s hi ih =>
    rw [Finset.sum_insert hi, Finset.sum_insert hi, ← ih]
    obtain ⟨b, hb⟩ := Re.sum s (f := fun i => (g i : EReal)) fun i => ⟨g i, rfl⟩
    rw [← hb, ← EReal.coe_add, ← EReal.coe_mul, ← EReal.coe_mul, ← EReal.coe_mul, ← EReal.coe_add, mul_add]

/-- A finite factor distributes over a sum whose second term is finite, whatever the first is. -/
theorem add_mul_of_finite (g : EReal) {h s : EReal} (hh : Re h) (hs : Re s) : (g + h) * s = g * s + h * s := by
  obtain ⟨b, rfl⟩ := hh; obtain ⟨c, rfl⟩ := hs
  induction g with
  | coe a => rw [← EReal.coe_add, ← EReal.coe_mul, ← EReal.coe_mul, ← EReal.coe_mul, ← EReal.coe_add, add_mul]
  | top =>
    rw [EReal.top_add_coe]
    rcases lt_trichotomy c 0 with hc | hc | hc
    · rw [EReal.top_mul_coe_of_neg hc, ← EReal.coe_mul, EReal.bot_add]
    · subst hc; simp
    · rw [EReal.top_mul_coe_of_pos hc, ← EReal.coe_mul, EReal.top_add_coe]
  | bot =>
    rw [EReal.bot_add]
    rcases lt_trichotomy c 0 with hc | hc | hc
    · rw [EReal.bot_mul_coe_of_neg hc, ← EReal.coe_mul, EReal.top_add_coe]
    · subst hc; simp
    · rw [EReal.bot_mul_coe_of_pos hc, ← EReal.coe_mul, EReal.bot_add]

end Cert.Val
-- ==== Proof.Fin.lean ====
/- What the precondition says of the arguments: the codes of `x` and `dy` are of finite values, and the scales and adapters are finite. -/
module

public import proofs.«01_k».proof.Defs
public import proofs.«01_k».proof.Proof.Alg
public import Idealize.ShloMosaic.Lib.ValueIdx

@[expose] public section

set_option maxRecDepth 16384

noncomputable section

namespace Cert.Val

open Idealize.ShloMosaic

instance finiteFacts : Cert.Pre_finite.Facts where
  natLt_8_32 := by decide
  bcast_S_S2x128x7168 := by decide
  bcast_S_S2x128x18432 := by decide
  bcast_S_S2x128 := by decide
  bcast_S_S7168x32 := by decide
  bcast_S_S32x18432 := by decide

/-- A byte that is not the code of a NaN reads as a number. -/
theorem e4m3_re (b : BitVec 8) (h : b.extractLsb' 3 4 ≠ 15#4 ∨ b.extractLsb' 0 3 ≠ 7#3) : Re (Ideal.ofBits .fp8e4m3 b) := by
  show Re (Ideal.e4m3fn b)
  unfold Ideal.e4m3fn
  dsimp only
  rw [if_neg (by
    rintro ⟨h1, h2⟩
    rcases h with h | h
    · exact h (BitVec.eq_of_toNat_eq h1)
    · exact h (BitVec.eq_of_toNat_eq h2))]
  split
  · exact ⟨_, rfl⟩
  · exact ⟨_, rfl⟩

/-- A byte whose exponent is not all ones reads as a number. -/
theorem e5m2_re (b : BitVec 8) (h : b.extractLsb' 2 5 ≠ 31#5) : Re (Ideal.ofBits .fp8e5m2 b) := by
  show Re (Ideal.ieee 5 2 b)
  unfold Ideal.ieee
  dsimp only
  rw [if_neg (show ¬(b.extractLsb' 2 5).toNat = 2 ^ 5 - 1 from fun h1 => h (BitVec.eq_of_toNat_eq h1))]
  split
  · exact ⟨_, rfl⟩
  · exact ⟨_, rfl⟩

theorem code4 : ∀ b : BitVec 8, BitVec.ofBool (((b.setWidth 32) &&& 127#32).slt 127#32) = 1#1 → b.extractLsb' 3 4 ≠ 15#4 ∨ b.extractLsb' 0 3 ≠ 7#3 := by
  decide +kernel

theorem code5 : ∀ b : BitVec 8, BitVec.ofBool (((b.setWidth 32) &&& 127#32).slt 124#32) = 1#1 → b.extractLsb' 2 5 ≠ 31#5 := by
  decide +kernel

/-- A value whose absolute value is less than infinity is a number. -/
theorem abs_re (x y : EReal) (hy : y = ⊤) (h : Ideal.cmp .olt (max x (-x)) y = 1#1) : Re x := by
  subst hy
  have h' : max x (-x) < ⊤ := by
    by_contra hn
    have : Ideal.cmp .olt (max x (-x)) ⊤ = 0#1 := by simp [Ideal.cmp, hn]
    rw [this] at h
    exact absurd h (by decide)
  refine Re.of_ne (fun e => ?_) (fun e => ?_)
  · subst e; exact absurd h' (by simp)
  · subst e; exact absurd h' (by simp)

theorem inf32 : (Ideal.ofBits .f32 0x7F800000#32 : EReal) = ⊤ := by
  simp [Ideal.ofBits, Ideal.ieee]
theorem inf16 : (Ideal.ofBits .bf16 0x7F80#16 : EReal) = ⊤ := by
  simp [Ideal.ofBits, Ideal.ieee]

variable (a0 : IVec Pre_finite.S2x128x7168 8) (a1 : FVec Ideal Pre_finite.S2x128 .f32) (a2 : IVec Pre_finite.S2x128x18432 8)
  (a3 : FVec Ideal Pre_finite.S2x128 .f32) (a4 : FVec Ideal Pre_finite.S7168x18432 .fp8e4m3) (a5 : FVec Ideal Pre_finite.S18432 .f32)
  (a6 : FVec Ideal Pre_finite.S7168x32 .bf16) (a7 : FVec Ideal Pre_finite.S32x18432 .bf16)

theorem mask0 (h : (Cert.Pre_finite.fn (F := Ideal) a0 a1 a2 a3 a4 a5 a6 a7).1 = fun _ => 1#1) (j : Pre_finite.S2x128x7168.Idx) :
    Re (Ideal.ofBits .fp8e4m3 (a0 j)) := e4m3_re _ (code4 (a0 j) (congrFun h j))
theorem mask1 (h : (Cert.Pre_finite.fn (F := Ideal) a0 a1 a2 a3 a4 a5 a6 a7).2.1 = fun _ => 1#1) (j : Pre_finite.S2x128x18432.Idx) :
    Re (Ideal.ofBits .fp8e5m2 (a2 j)) := e5m2_re _ (code5 (a2 j) (congrFun h j))
theorem mask2 (h : (Cert.Pre_finite.fn (F := Ideal) a0 a1 a2 a3 a4 a5 a6 a7).2.2.1 = fun _ => 1#1) (j : Pre_finite.S2x128.Idx) :
    Re (a1 j) := abs_re _ _ inf32 (congrFun h j)
theorem mask3 (h : (Cert.Pre_finite.fn (F := Ideal) a0 a1 a2 a3 a4 a5 a6 a7).2.2.2.1 = fun _ => 1#1) (j : Pre_finite.S2x128.Idx) :
    Re (a3 j) := abs_re _ _ inf32 (congrFun h j)
theorem mask4 (h : (Cert.Pre_finite.fn (F := Ideal) a0 a1 a2 a3 a4 a5 a6 a7).2.2.2.2.1 = fun _ => 1#1) (j : Pre_finite.S7168x32.Idx) :
    Re (a6 j) := abs_re _ _ inf16 (congrFun h j)
theorem mask5 (h : (Cert.Pre_finite.fn (F := Ideal) a0 a1 a2 a3 a4 a5 a6 a7).2.2.2.2.2 = fun _ => 1#1) (j : Pre_finite.S32x18432.Idx) :
    Re (a7 j) := abs_re _ _ inf16 (congrFun h j)

end Cert.Val
end
-- ==== Proof.VIdx.lean ====
/- The vector operations of the kernel and of the reference read at one index, at the exact instance: matrix products as
   sums over one coordinate, three equal pieces concatenated, broadcast rows and columns; and sums over 96 positions cut
   into three times 32. -/
module

public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.Val

open Idealize.ShloMosaic Idealize.ShloMosaic.ValueIdx
open scoped BigOperators

/-! ## Matrix products -/

/-- `[M,K] × [K,N]` onto zero. -/
theorem mm10 {M K N : ℕ} {φ₁ φ₂ : FTy} (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂) (r : Fin M) (c : Fin N) :
    FloatOps.matmul D prec lhs rhs (constant ⟨2, ![M, N]⟩ .f32 0x00000000#32) (ix2 r c) = ∑ k : Fin K, lhs (ix2 r k) * rhs (ix2 k c) := by
  subst hD
  rw [Ideal.matmul_plain_apply]
  show Ideal.ofBits .f32 0x00000000#32 + _ = _
  rw [Ideal.ofBits_zero_f32, zero_add]

/-- `[M,K] × [N,K]ᵀ` onto zero. -/
theorem mm11 {M K N : ℕ} {φ₁ φ₂ : FTy} (D : DotDims ⟨2, ![M, K]⟩ ⟨2, ![N, K]⟩ ⟨2, ![M, N]⟩) (hD : D = DotDims.transposedRhs M K N)
    (prec : Option ContractPrecision) (lhs : FVec Ideal ⟨2, ![M, K]⟩ φ₁) (rhs : FVec Ideal ⟨2, ![N, K]⟩ φ₂) (r : Fin M) (c : Fin N) :
    FloatOps.matmul D prec lhs rhs (constant ⟨2, ![M, N]⟩ .f32 0x00000000#32) (ix2 r c) = ∑ k : Fin K, lhs (ix2 r k) * rhs (ix2 c k) := by
  subst hD
  rw [Ideal.matmul_transposedRhs_apply]
  show Ideal.ofBits .f32 0x00000000#32 + _ = _
  rw [Ideal.ofBits_zero_f32, zero_add]

/-- Both operands contracted on their first axis. -/
def dims00 (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The left operand contracted on its first axis, the right one on its last. -/
def dims01 (M K N : ℕ) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

theorem dims00_rank (M K N : ℕ) : (dims00 M K N).contr.rank = 1 := rfl
theorem dims00_size (M K N : ℕ) : (dims00 M K N).contr.size ⟨0, by rw [dims00_rank]; exact Nat.one_pos⟩ = K := rfl
theorem dims01_rank (M K N : ℕ) : (dims01 M K N).contr.rank = 1 := rfl
theorem dims01_size (M K N : ℕ) : (dims01 M K N).contr.size ⟨0, by rw [dims01_rank]; exact Nat.one_pos⟩ = K := rfl

/-- `[K,M]ᵀ × [K,N]` onto zero. -/
theorem mm00 {M K N : ℕ} {φ₁ φ₂ : FTy} (D : DotDims ⟨2, ![K, M]⟩ ⟨2, ![K, N]⟩ ⟨2, ![M, N]⟩) (hD : D = dims00 M K N)
    (prec : Option ContractPrecision) (lhs : FVec Ideal ⟨2, ![K, M]⟩ φ₁) (rhs : FVec Ideal ⟨2, ![K, N]⟩ φ₂) (r : Fin M) (c : Fin N) :
    FloatOps.matmul D prec lhs rhs (constant ⟨2, ![M, N]⟩ .f32 0x00000000#32) (ix2 r c) = ∑ k : Fin K, lhs (ix2 k r) * rhs (ix2 k c) := by
  subst hD
  rw [Ideal.matmul_constant_zero_apply,
    ← Equiv.sum_comp (contrEquiv1 (dims00 M K N) K (dims00_rank M K N) (dims00_size M K N)).symm]
  refine Finset.sum_congr rfl fun k _ => ?_
  have hk := contrEquiv1_symm_val _ K (dims00_rank M K N) (dims00_size M K N) k
  have el : (dims00 M K N).lhsIdx (ix2 r c) ((contrEquiv1 (dims00 M K N) K (dims00_rank M K N) (dims00_size M K N)).symm k) = ix2 k r := by
    funext a; apply Fin.ext
    match a with
    | ⟨0, _⟩ => exact hk
    | ⟨1, _⟩ => rfl
  have er : (dims00 M K N).rhsIdx (ix2 r c) ((contrEquiv1 (dims00 M K N) K (dims00_rank M K N) (dims00_size M K N)).symm k) = ix2 k c := by
    funext a; apply Fin.ext
    match a with
    | ⟨0, _⟩ => exact hk
    | ⟨1, _⟩ => rfl
  rw [el, er]

/-- `[K,M]ᵀ × [N,K]ᵀ` onto zero. -/
theorem mm01 {M K N : ℕ} {φ₁ φ₂ : FTy} (D : DotDims ⟨2, ![K, M]⟩ ⟨2, ![N, K]⟩ ⟨2, ![M, N]⟩) (hD : D = dims01 M K N)
    (prec : Option ContractPrecision) (lhs : FVec Ideal ⟨2, ![K, M]⟩ φ₁) (rhs : FVec Ideal ⟨2, ![N, K]⟩ φ₂) (r : Fin M) (c : Fin N) :
    FloatOps.matmul D prec lhs rhs (constant ⟨2, ![M, N]⟩ .f32 0x00000000#32) (ix2 r c) = ∑ k : Fin K, lhs (ix2 k r) * rhs (ix2 c k) := by
  subst hD
  rw [Ideal.matmul_constant_zero_apply,
    ← Equiv.sum_comp (contrEquiv1 (dims01 M K N) K (dims01_rank M K N) (dims01_size M K N)).symm]
  refine Finset.sum_congr rfl fun k _ => ?_
  have hk := contrEquiv1_symm_val _ K (dims01_rank M K N) (dims01_size M K N) k
  have el : (dims01 M K N).lhsIdx (ix2 r c) ((contrEquiv1 (dims01 M K N) K (dims01_rank M K N) (dims01_size M K N)).symm k) = ix2 k r := by
    funext a; apply Fin.ext
    match a with
    | ⟨0, _⟩ => exact hk
    | ⟨1, _⟩ => rfl
  have er : (dims01 M K N).rhsIdx (ix2 r c) ((contrEquiv1 (dims01 M K N) K (dims01_rank M K N) (dims01_size M K N)).symm k) = ix2 c k := by
    funext a; apply Fin.ext
    match a with
    | ⟨0, _⟩ => rfl
    | ⟨1, _⟩ => exact hk
  rw [el, er]

/-! ## Pieces side by side -/

/-- Two rows one after the other: position `p` of the whole is position `p mod m` of piece `p / m`. -/
theorem concat2_row {α : Type} {m n : ℕ} (p q : (⟨2, ![1, m]⟩ : Shape).Idx → α)
    (h : Shape.Concatenates [⟨2, ![1, m]⟩, ⟨2, ![1, m]⟩] ⟨2, ![1, n]⟩ 1) (c : Fin n) (k : Fin m) (b : Bool)
    (hk : c.val = (if b then m else 0) + k.val) :
    concatenate ⟨2, ![1, n]⟩ 1 [⟨⟨2, ![1, m]⟩, p⟩, ⟨⟨2, ![1, m]⟩, q⟩] h (ix2 (0 : Fin 1) c) = (if b then q else p) (ix2 (0 : Fin 1) k) := by
  have off : ∀ d : Fin 2, d ≠ 1 → ((ix2 (0 : Fin 1) k : (⟨2, ![1, m]⟩ : Shape).Idx) d).val = ((ix2 (0 : Fin 1) c : (⟨2, ![1, n]⟩ : Shape).Idx) d).val := by
    intro d hd
    match d with
    | ⟨0, _⟩ => rfl
    | ⟨1, _⟩ => exact absurd rfl hd
  cases b
  · exact concatenate_apply_piece (t := ⟨2, ![1, n]⟩) 1 [⟨⟨2, ![1, m]⟩, p⟩, ⟨⟨2, ![1, m]⟩, q⟩] h _ 0 (by decide : (0 : ℕ) < 2) ⟨2, ![1, m]⟩ p rfl rfl 0 rfl (ix2 0 k) off
      (by show 0 + k.val = c.val; simpa using hk.symm)
  · exact concatenate_apply_piece (t := ⟨2, ![1, n]⟩) 1 [⟨⟨2, ![1, m]⟩, p⟩, ⟨⟨2, ![1, m]⟩, q⟩] h _ 1 (by decide : (1 : ℕ) < 2) ⟨2, ![1, m]⟩ q rfl rfl m rfl (ix2 0 k) off
      (by show m + k.val = c.val; simpa using hk.symm)

/-- Three matrices one below the other, read in each. -/
theorem concat3_rows {α : Type} {n : ℕ} (p q w : (⟨2, ![32, n]⟩ : Shape).Idx → α)
    (h : Shape.Concatenates [⟨2, ![32, n]⟩, ⟨2, ![32, n]⟩, ⟨2, ![32, n]⟩] ⟨2, ![96, n]⟩ 0) (r : Fin 32) (c : Fin n) :
    concatenate ⟨2, ![96, n]⟩ 0 [⟨⟨2, ![32, n]⟩, p⟩, ⟨⟨2, ![32, n]⟩, q⟩, ⟨⟨2, ![32, n]⟩, w⟩] h (ix2 (⟨r.val, by omega⟩ : Fin 96) c) = p (ix2 r c)
      ∧ concatenate ⟨2, ![96, n]⟩ 0 [⟨⟨2, ![32, n]⟩, p⟩, ⟨⟨2, ![32, n]⟩, q⟩, ⟨⟨2, ![32, n]⟩, w⟩] h (ix2 (⟨32 + r.val, by omega⟩ : Fin 96) c) = q (ix2 r c)
      ∧ concatenate ⟨2, ![96, n]⟩ 0 [⟨⟨2, ![32, n]⟩, p⟩, ⟨⟨2, ![32, n]⟩, q⟩, ⟨⟨2, ![32, n]⟩, w⟩] h (ix2 (⟨64 + r.val, by omega⟩ : Fin 96) c) = w (ix2 r c) := by
  have off : ∀ k : Fin 96, ∀ d : Fin 2, d ≠ 0 → ((ix2 r c : (⟨2, ![32, n]⟩ : Shape).Idx) d).val = ((ix2 k c : (⟨2, ![96, n]⟩ : Shape).Idx) d).val := by
    intro k d hd
    match d with
    | ⟨0, _⟩ => exact absurd rfl hd
    | ⟨1, _⟩ => rfl
  exact ⟨concatenate_apply_piece (t := ⟨2, ![96, n]⟩) 0 [⟨⟨2, ![32, n]⟩, p⟩, ⟨⟨2, ![32, n]⟩, q⟩, ⟨⟨2, ![32, n]⟩, w⟩] h _ 0 (by decide : (0 : ℕ) < 3) ⟨2, ![32, n]⟩ p rfl rfl 0 rfl (ix2 r c) (off _) (Nat.zero_add _),
    concatenate_apply_piece (t := ⟨2, ![96, n]⟩) 0 [⟨⟨2, ![32, n]⟩, p⟩, ⟨⟨2, ![32, n]⟩, q⟩, ⟨⟨2, ![32, n]⟩, w⟩] h _ 1 (by decide : (1 : ℕ) < 3) ⟨2, ![32, n]⟩ q rfl rfl 32 rfl (ix2 r c) (off _) rfl,
    concatenate_apply_piece (t := ⟨2, ![96, n]⟩) 0 [⟨⟨2, ![32, n]⟩, p⟩, ⟨⟨2, ![32, n]⟩, q⟩, ⟨⟨2, ![32, n]⟩, w⟩] h _ 2 (by decide : (2 : ℕ) < 3) ⟨2, ![32, n]⟩ w rfl rfl 64 rfl (ix2 r c) (off _) rfl⟩

/-- Three matrices side by side, read in each. -/
theorem concat3_cols {α : Type} {n : ℕ} (p q w : (⟨2, ![n, 32]⟩ : Shape).Idx → α)
    (h : Shape.Concatenates [⟨2, ![n, 32]⟩, ⟨2, ![n, 32]⟩, ⟨2, ![n, 32]⟩] ⟨2, ![n, 96]⟩ 1) (c : Fin n) (r : Fin 32) :
    concatenate ⟨2, ![n, 96]⟩ 1 [⟨⟨2, ![n, 32]⟩, p⟩, ⟨⟨2, ![n, 32]⟩, q⟩, ⟨⟨2, ![n, 32]⟩, w⟩] h (ix2 c (⟨r.val, by omega⟩ : Fin 96)) = p (ix2 c r)
      ∧ concatenate ⟨2, ![n, 96]⟩ 1 [⟨⟨2, ![n, 32]⟩, p⟩, ⟨⟨2, ![n, 32]⟩, q⟩, ⟨⟨2, ![n, 32]⟩, w⟩] h (ix2 c (⟨32 + r.val, by omega⟩ : Fin 96)) = q (ix2 c r)
      ∧ concatenate ⟨2, ![n, 96]⟩ 1 [⟨⟨2, ![n, 32]⟩, p⟩, ⟨⟨2, ![n, 32]⟩, q⟩, ⟨⟨2, ![n, 32]⟩, w⟩] h (ix2 c (⟨64 + r.val, by omega⟩ : Fin 96)) = w (ix2 c r) := by
  have off : ∀ k : Fin 96, ∀ d : Fin 2, d ≠ 1 → ((ix2 c r : (⟨2, ![n, 32]⟩ : Shape).Idx) d).val = ((ix2 c k : (⟨2, ![n, 96]⟩ : Shape).Idx) d).val := by
    intro k d hd
    match d with
    | ⟨0, _⟩ => rfl
    | ⟨1, _⟩ => exact absurd rfl hd
  exact ⟨concatenate_apply_piece (t := ⟨2, ![n, 96]⟩) 1 [⟨⟨2, ![n, 32]⟩, p⟩, ⟨⟨2, ![n, 32]⟩, q⟩, ⟨⟨2, ![n, 32]⟩, w⟩] h _ 0 (by decide : (0 : ℕ) < 3) ⟨2, ![n, 32]⟩ p rfl rfl 0 rfl (ix2 c r) (off _) (Nat.zero_add _),
    concatenate_apply_piece (t := ⟨2, ![n, 96]⟩) 1 [⟨⟨2, ![n, 32]⟩, p⟩, ⟨⟨2, ![n, 32]⟩, q⟩, ⟨⟨2, ![n, 32]⟩, w⟩] h _ 1 (by decide : (1 : ℕ) < 3) ⟨2, ![n, 32]⟩ q rfl rfl 32 rfl (ix2 c r) (off _) rfl,
    concatenate_apply_piece (t := ⟨2, ![n, 96]⟩) 1 [⟨⟨2, ![n, 32]⟩, p⟩, ⟨⟨2, ![n, 32]⟩, q⟩, ⟨⟨2, ![n, 32]⟩, w⟩] h _ 2 (by decide : (2 : ℕ) < 3) ⟨2, ![n, 32]⟩ w rfl rfl 64 rfl (ix2 c r) (off _) rfl⟩

/-- A column broadcast along the rows. -/
theorem broadcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over 96 positions is a sum over 32 of the terms at `r`, `32 + r` and `64 + r`. -/
theorem sum96 {M : Type*} [AddCommMonoid M] (f : Fin 96 → M) :
    ∑ k, f k = ∑ r : Fin 32, (f ⟨r.val, by omega⟩ + f ⟨32 + r.val, by omega⟩ + f ⟨64 + r.val, by omega⟩) := by
  have e1 : ∑ k, f k = ∑ k : Fin 64, f ⟨k.val, by omega⟩ + ∑ r : Fin 32, f ⟨64 + r.val, by omega⟩ := Fin.sum_univ_add (a := 64) (b := 32) f
  have e2 : ∑ k : Fin 64, f ⟨k.val, by omega⟩ = ∑ r : Fin 32, f ⟨r.val, by omega⟩ + ∑ r : Fin 32, f ⟨32 + r.val, by omega⟩ :=
    Fin.sum_univ_add (a := 32) (b := 32) fun k : Fin 64 => f ⟨k.val, by omega⟩
  rw [e1, e2, Finset.sum_add_distrib, Finset.sum_add_distrib]

end Cert.Val
end
-- ==== Proof.KIdx.lean ====
/- The kernel's five results at one index, at the exact instance, as plain sums over the rows and columns of its blocks. -/
module

public import proofs.«01_k».proof.Proof.KVal
public import proofs.«01_k».proof.Proof.VIdx
public import proofs.«01_k».proof.Proof.Alg

@[expose] public section

set_option maxRecDepth 16384

noncomputable section

namespace Cert.KernelIdeal.Hand

open Idealize.ShloMosaic hiding ix2 eq_ix2
open Idealize.ShloMosaic.ValueIdx
open Cert.KernelIdeal.Gen Cert.Val
open scoped BigOperators

/-- The scale of row `p`, out of a scale kept as two rows of 128. -/
def sc (x : Vec Ideal S2x128 .f32) (p : Fin 256) : EReal :=
  x (ix2 (⟨p.val / 128, by omega⟩ : Fin 2) (⟨p.val % 128, Nat.mod_lt _ (by decide)⟩ : Fin 128))

/-- A property of every `ix2 a b` holds at every index. -/
theorem forall_ix2 {a b : ℕ} {P : (⟨2, ![a, b]⟩ : Shape).Idx → Prop} (h : ∀ r c, P (ix2 r c)) (j : (⟨2, ![a, b]⟩ : Shape).Idx) : P j :=
  (eq_ix2 j).symm ▸ h (j 0) (j 1)

/-- Twice, as the kernel writes it. -/
def two : EReal := Ideal.ofBits .f32 0x40000000#32

theorem two_re : Re two := ⟨2, by
  simp [two, Ideal.ofBits, Ideal.ieee]
  rw [← EReal.coe_mul]; norm_num⟩

theorem scale_row (x : Vec Ideal S2x128 .f32) (p : Fin 256) : k0_pay1 (row0 x) (row1 x) (ix2 (0 : Fin 1) p) = sc x p := by
  by_cases hp : p.val < 128
  · refine (concat2_row (row0 x) (row1 x) concatenates_S1x128_S1x128_S1x256_d1 p ⟨p.val, hp⟩ false (by simp)).trans ?_
    show x _ = x _
    congr 1
    funext a; apply Fin.ext
    match a with
    | ⟨0, _⟩ => show 0 + 1 * 0 = p.val / 128; omega
    | ⟨1, _⟩ => show 0 + 1 * p.val = p.val % 128; omega
  · refine (concat2_row (row0 x) (row1 x) concatenates_S1x128_S1x128_S1x256_d1 p ⟨p.val - 128, by omega⟩ true (by simp; omega)).trans ?_
    show x _ = x _
    congr 1
    funext a; apply Fin.ext
    match a with
    | ⟨0, _⟩ => show 1 + 1 * 0 = p.val / 128; omega
    | ⟨1, _⟩ => show 0 + 1 * (p.val - 128) = p.val % 128; omega

theorem scale_row' (x : Vec Ideal S2x128 .f32) (p : Fin 256) : k0_pay2 (row0 x) (row1 x) (ix2 (0 : Fin 1) p) = sc x p :=
  scale_row x p

variable (x0 : Vec Ideal S256x7168 .fp8e4m3) (x1 : Vec Ideal S2x128 .f32) (x2 : Vec Ideal S256x18432 .fp8e5m2) (x3 : Vec Ideal S2x128 .f32)
  (x4 : Vec Ideal S512x18432 .fp8e4m3) (x5 : Vec Ideal S1x18432 .f32) (x6 : Vec Ideal S7168x32 .bf16) (x7 : Vec Ideal S32x18432 .bf16)

/-- `lora_b · dyᵀ`. -/
def bdy (r : Fin 32) (p : Fin 256) : EReal := ∑ o : Fin 18432, (x7 (ix2 r o) : EReal) * x2 (ix2 p o)
/-- `lora_aᵀ · xᵀ`. -/
def axt (r : Fin 32) (p : Fin 256) : EReal := ∑ d : Fin 7168, (x6 (ix2 d r) : EReal) * x0 (ix2 p d)

theorem pay4_at (r : Fin 32) (p : Fin 256) : k0_pay4 x7 x2 (ix2 r p) = bdy x2 x7 r p := by
  unfold k0_pay4
  simp only [shapeCast_self]
  exact mm11 (φ₁ := .bf16) (φ₂ := .fp8e5m2) dot_S32x18432_S256x18432_S32x256_1_1_0_0_n_n rfl none x7 x2 r p

theorem pay5_at (r : Fin 32) (p : Fin 256) : k0_pay5 (row0 x3) (row1 x3) x7 x2 (ix2 r p) = bdy x2 x7 r p * sc x3 p := by
  show k0_pay4 x7 x2 (ix2 r p) * broadcastTo S32x256 (k0_pay1 (row0 x3) (row1 x3)) _ (ix2 r p) = _
  rw [pay4_at, broadcastTo_1b_ab_apply, scale_row]

theorem pay7_at (r : Fin 32) (p : Fin 256) : k0_pay7 (row0 x1) (row1 x1) x6 x0 (ix2 r p) = axt x0 x6 r p * sc x1 p := by
  unfold k0_pay7
  simp only [shapeCast_self]
  refine congrArg₂ (fun a b : EReal => a * b) (mm01 (φ₁ := .bf16) (φ₂ := .fp8e4m3) dot_S7168x32_S256x7168_S32x256_0_1_1_0_n_n rfl none x6 x0 r p) ?_
  rw [broadcastTo_1b_ab_apply, scale_row']

/-- Result 4. -/
theorem TT_at (p : Fin 256) (r : Fin 32) : TT x2 x3 x7 (ix2 p r) = bdy x2 x7 r p * sc x3 p := by
  unfold TT k0_pay6
  rw [transpose_ix2_apply, pay5_at]

/-- Result 5. -/
theorem XA_at (p : Fin 256) (r : Fin 32) : XA x0 x1 x6 (ix2 p r) = axt x0 x6 r p * sc x1 p := by
  unfold XA k0_pay8
  rw [transpose_ix2_apply, pay7_at]

/-- The three parts of a finite matrix, one below the other: the matrix, then zeros. -/
theorem parts_at (v : S32x256.Idx → EReal) (hv : ∀ j, Re (v j)) (r : Fin 32) (p : Fin 256) (A B C : S32x256.Idx → EReal)
    (hA : A = v) (hB : ∀ j, B j = v j - v j) (hC : ∀ j, C j = v j - v j - (v j - v j))
    (h : Shape.Concatenates [S32x256, S32x256, S32x256] S96x256 0) :
    concatenate S96x256 0 [⟨S32x256, A⟩, ⟨S32x256, B⟩, ⟨S32x256, C⟩] h (ix2 (⟨r.val, by omega⟩ : Fin 96) p) = v (ix2 r p)
      ∧ concatenate S96x256 0 [⟨S32x256, A⟩, ⟨S32x256, B⟩, ⟨S32x256, C⟩] h (ix2 (⟨32 + r.val, by omega⟩ : Fin 96) p) = (0 : EReal)
      ∧ concatenate S96x256 0 [⟨S32x256, A⟩, ⟨S32x256, B⟩, ⟨S32x256, C⟩] h (ix2 (⟨64 + r.val, by omega⟩ : Fin 96) p) = (0 : EReal) := by
  obtain ⟨e1, e2, e3⟩ := concat3_rows A B C h r p
  refine ⟨e1.trans (congrFun hA _), e2.trans ?_, e3.trans ?_⟩
  · rw [hB]; exact (hv _).sub_self
  · rw [hC, (hv _).sub_self]; exact Re.zero.sub_self

/-- Scratch 1: twice `lora_b · dyᵀ` and two blocks of zeros. -/
theorem S1_at (hb : ∀ r p, Re (bdy x2 x7 r p)) (p : Fin 256) (r : Fin 32) :
    S1 x2 x7 (ix2 p (⟨r.val, by omega⟩ : Fin 96)) = two * bdy x2 x7 r p
      ∧ S1 x2 x7 (ix2 p (⟨32 + r.val, by omega⟩ : Fin 96)) = (0 : EReal) ∧ S1 x2 x7 (ix2 p (⟨64 + r.val, by omega⟩ : Fin 96)) = (0 : EReal) := by
  have hv : ∀ j, Re ((mulf (broadcast S32x256 (Scalar.ofBits .f32 0x40000000#32 : Ideal .f32)) (k0_pay4 x7 x2) : FVec Ideal S32x256 .f32) j) := by
    refine forall_ix2 fun r p => ?_
    show Re (two * k0_pay4 x7 x2 (ix2 r p))
    rw [pay4_at]
    exact two_re.mul (hb _ _)
  have e : (mulf (broadcast S32x256 (Scalar.ofBits .f32 0x40000000#32 : Ideal .f32)) (k0_pay4 x7 x2) : FVec Ideal S32x256 .f32) (ix2 r p)
      = two * bdy x2 x7 r p := congrArg (two * ·) (pay4_at x2 x7 r p)
  unfold S1 k0_pay15
  simp only [shapeCast_self]
  simp only [truncf_apply]
  rw [transpose_ix2_apply, transpose_ix2_apply, transpose_ix2_apply, extf_apply, extf_apply, extf_apply, ← e]
  generalize (mulf (broadcast S32x256 (Scalar.ofBits .f32 0x40000000#32 : Ideal .f32)) (k0_pay4 x7 x2) : FVec Ideal S32x256 .f32) = v at hv ⊢
  exact parts_at v hv r p _ _ _ rfl (fun _ => rfl) (fun _ => rfl) concatenates_S32x256_S32x256_S32x256_S96x256_d0

/-- Scratch 2: the scaled `t` and two blocks of zeros. -/
theorem S2_at (hb : ∀ r p, Re (bdy x2 x7 r p)) (h1 : ∀ p, Re (sc x1 p)) (h3 : ∀ p, Re (sc x3 p)) (r : Fin 32) (p : Fin 256) :
    S2 x1 x2 x3 x7 (ix2 (⟨r.val, by omega⟩ : Fin 96) p) = sc x1 p * (bdy x2 x7 r p * sc x3 p)
      ∧ S2 x1 x2 x3 x7 (ix2 (⟨32 + r.val, by omega⟩ : Fin 96) p) = (0 : EReal) ∧ S2 x1 x2 x3 x7 (ix2 (⟨64 + r.val, by omega⟩ : Fin 96) p) = (0 : EReal) := by
  have e : ∀ r p, (mulf (broadcastTo S32x256 (k0_pay2 (row0 x1) (row1 x1)) broadcasts_S1x256_S32x256) (k0_pay5 (row0 x3) (row1 x3) x7 x2) : FVec Ideal S32x256 .f32) (ix2 r p)
      = sc x1 p * (bdy x2 x7 r p * sc x3 p) := by
    intro r p
    refine congrArg₂ (fun a b : EReal => a * b) ?_ (pay5_at x2 x3 x7 r p)
    rw [broadcastTo_1b_ab_apply, scale_row']
  have hv : ∀ j, Re ((mulf (broadcastTo S32x256 (k0_pay2 (row0 x1) (row1 x1)) broadcasts_S1x256_S32x256) (k0_pay5 (row0 x3) (row1 x3) x7 x2) : FVec Ideal S32x256 .f32) j) := by
    refine forall_ix2 fun r p => ?_
    rw [e]
    exact (h1 _).mul ((hb _ _).mul (h3 _))
  have key := parts_at _ hv r p _ _ _ rfl (fun _ => rfl) (fun _ => rfl) concatenates_S32x256_S32x256_S32x256_S96x256_d0
  unfold S2 k0_pay16
  simp only [shapeCast_self]
  exact ⟨key.1.trans (e r p), key.2.1, key.2.2⟩

/-- Scratch 3: the gradient's scale, as a column. -/
theorem S3_at (p : Fin 256) (k : Fin 128) : S3 x3 (ix2 p k) = sc x3 p := by
  unfold S3 k0_pay18 k0_pay17
  simp only [shapeCast_self]
  rw [transpose_ix2_apply, broadcastTo_1b_ab_apply, scale_row]

theorem S0_at (p : Fin 256) (o : Fin 18432) : S0 x2 x5 (ix2 p o) = (x2 (ix2 p o) : EReal) * x5 (ix2 (0 : Fin 1) o) := by
  refine congrArg (fun b : EReal => (x2 (ix2 p o) : EReal) * b) ?_
  exact broadcastTo_1b_ab_apply _ _ p o

/-- Result 1 at a grid point. -/
theorem DX_at (i : grid0.Coords) (hb : ∀ r p, Re (bdy x2 x7 r p)) (p : Fin 256) (k : Fin 512) (d : Fin 7168) (hd : d.val = 512 * (i 0).val + k.val) :
    DX i x4 x6 (S0 x2 x5) (S1 x2 x7) (S3 x3) (ix2 p k)
      = ((∑ o : Fin 18432, (x2 (ix2 p o) : EReal) * x5 (ix2 (0 : Fin 1) o) * x4 (ix2 k o))
          + ∑ r : Fin 32, two * bdy x2 x7 r p * x6 (ix2 d r)) * sc x3 p := by
  have hA : ∀ r : Fin 32, View.ld x6 (Rect.unit (k0_off3 i) S512x32.size (k0_off3_inb i)) (ix2 k r) = x6 (ix2 d r) := by
    intro r
    show x6 _ = x6 _
    congr 1
    funext a; apply Fin.ext
    have e := congrFun (off3_eq i)
    match a with
    | ⟨0, _⟩ => show k0_off3 i 0 + 1 * k.val = d.val; rw [e 0, hd]; show 512 * (i 0).val + 1 * k.val = _; omega
    | ⟨1, _⟩ => show k0_off3 i 1 + 1 * r.val = r.val; rw [e 1]; show 0 + 1 * r.val = _; omega
  unfold DX k0_pay19
  refine congrArg₂ (fun a b : EReal => a * b) (congrArg₂ (fun a b : EReal => a + b) ?_ ?_) ?_
  · refine (mm11 (φ₁ := .bf16) (φ₂ := .fp8e4m3) dot_S256x18432_S512x18432_S256x512_1_1_0_0_n_n rfl none (S0 x2 x5) x4 p k).trans ?_
    exact Finset.sum_congr rfl fun o _ => by rw [S0_at]
  · refine (mm11 (φ₁ := .bf16) (φ₂ := .bf16) dot_S256x96_S512x96_S256x512_1_1_0_0_n_n rfl none (S1 x2 x7) _ p k).trans ?_
    rw [sum96]
    refine Finset.sum_congr rfl fun r _ => ?_
    obtain ⟨e1, e2, e3⟩ := S1_at x2 x7 hb p r
    rw [e1, e2, e3, (concat3_cols _ _ _ _ k r).1, hA, zero_mul, zero_mul, add_zero, add_zero]
  · refine (broadcast_col _ _ p k).trans ?_
    refine Eq.trans ?_ (S3_at x3 p 0)
    show S3 x3 _ = S3 x3 _
    congr 1
    funext a; apply Fin.ext
    match a with
    | ⟨0, _⟩ => show 0 + 1 * p.val = p.val; omega
    | ⟨1, _⟩ => rfl

/-- Three slices of 32 rows of a product whose left operand is a matrix above zeros. -/
theorem slices_at {n m : ℕ} (L : FVec Ideal ⟨2, ![96, m]⟩ .bf16) {φ : FTy} (R : FVec Ideal ⟨2, ![m, n]⟩ φ) (l : Fin 32 → Fin m → EReal)
    (D : DotDims ⟨2, ![96, m]⟩ ⟨2, ![m, n]⟩ ⟨2, ![96, n]⟩) (hD : D = DotDims.plain 96 m n)
    (hL : ∀ r p, L (ix2 (⟨r.val, by omega⟩ : Fin 96) p) = l r p
      ∧ L (ix2 (⟨32 + r.val, by omega⟩ : Fin 96) p) = (0 : EReal) ∧ L (ix2 (⟨64 + r.val, by omega⟩ : Fin 96) p) = (0 : EReal))
    (h0 : (⟨2, ![96, n]⟩ : Shape).Slices ![0, 0] ⟨2, ![32, n]⟩) (h1 : (⟨2, ![96, n]⟩ : Shape).Slices ![32, 0] ⟨2, ![32, n]⟩)
    (h2 : (⟨2, ![96, n]⟩ : Shape).Slices ![64, 0] ⟨2, ![32, n]⟩) (r : Fin 32) (c : Fin n) :
    (extractStridedSlice ⟨2, ![32, n]⟩ ![0, 0] (FloatOps.matmul D none L R (constant ⟨2, ![96, n]⟩ .f32 0x00000000#32)) h0 (ix2 r c) : EReal)
        + extractStridedSlice ⟨2, ![32, n]⟩ ![32, 0] (FloatOps.matmul D none L R (constant ⟨2, ![96, n]⟩ .f32 0x00000000#32)) h1 (ix2 r c)
        + extractStridedSlice ⟨2, ![32, n]⟩ ![64, 0] (FloatOps.matmul D none L R (constant ⟨2, ![96, n]⟩ .f32 0x00000000#32)) h2 (ix2 r c)
      = ∑ p : Fin m, l r p * R (ix2 p c) := by
  rw [slice2_axis0_apply 0 _ h0 r c (⟨r.val, by omega⟩ : Fin 96) (Nat.zero_add _).symm,
    slice2_axis0_apply 32 _ h1 r c (⟨32 + r.val, by omega⟩ : Fin 96) rfl,
    slice2_axis0_apply 64 _ h2 r c (⟨64 + r.val, by omega⟩ : Fin 96) rfl, mm10 D hD, mm10 D hD, mm10 D hD]
  have z1 : ∑ k : Fin m, L (ix2 (⟨32 + r.val, by omega⟩ : Fin 96) k) * R (ix2 k c) = (0 : EReal) :=
    Finset.sum_eq_zero fun p _ => by rw [(hL r p).2.1, zero_mul]
  have z2 : ∑ k : Fin m, L (ix2 (⟨64 + r.val, by omega⟩ : Fin 96) k) * R (ix2 k c) = (0 : EReal) :=
    Finset.sum_eq_zero fun p _ => by rw [(hL r p).2.2, zero_mul]
  rw [z1, z2, add_zero, add_zero]
  exact Finset.sum_congr rfl fun p _ => by rw [(hL r p).1]

/-- Result 2 at a grid point. -/
theorem DA_at (i : grid0.Coords) (hb : ∀ r p, Re (bdy x2 x7 r p)) (h1 : ∀ p, Re (sc x1 p)) (h3 : ∀ p, Re (sc x3 p))
    (k : Fin 512) (r : Fin 32) (d : Fin 7168) (hd : d.val = 512 * (i 0).val + k.val) :
    DA i x0 (S2 x1 x2 x3 x7) (ix2 k r) = two * ∑ p : Fin 256, sc x1 p * (bdy x2 x7 r p * sc x3 p) * x0 (ix2 p d) := by
  have hX : ∀ p : Fin 256, View.ld x0 (Rect.unit (k0_off4 i) S256x512.size (k0_off4_inb i)) (ix2 p k) = x0 (ix2 p d) := by
    intro p
    show x0 _ = x0 _
    congr 1
    funext a; apply Fin.ext
    have e := congrFun (off4_eq i)
    match a with
    | ⟨0, _⟩ => show k0_off4 i 0 + 1 * p.val = p.val; rw [e 0]; show 0 + 1 * p.val = _; omega
    | ⟨1, _⟩ => show k0_off4 i 1 + 1 * k.val = d.val; rw [e 1, hd]; show 512 * (i 0).val + 1 * k.val = _; omega
  unfold DA k0_pay20
  simp only [shapeCast_self]
  refine congrArg (fun b : EReal => two * b) ((transpose_ix2_apply _ _ k r).trans ?_)
  refine (slices_at (φ := .fp8e4m3) (S2 x1 x2 x3 x7) (View.ld x0 (Rect.unit (k0_off4 i) S256x512.size (k0_off4_inb i))) _
    dot_S96x256_S256x512_S96x512_1_0_0_1_n_n rfl (S2_at x1 x2 x3 x7 hb h1 h3) _ _ _ r k).trans ?_
  exact Finset.sum_congr rfl fun p _ => by rw [hX]

/-- Result 3. -/
theorem DB_at (ha : ∀ r p, Re (axt x0 x6 r p)) (h1 : ∀ p, Re (sc x1 p)) (h3 : ∀ p, Re (sc x3 p)) (r : Fin 32) (o : Fin 18432) :
    DB x0 x1 x2 x3 x6 (ix2 r o) = two * ∑ p : Fin 256, axt x0 x6 r p * sc x1 p * sc x3 p * x2 (ix2 p o) := by
  have e : ∀ r p, k0_pay9 (row0 x3) (row1 x3) (row0 x1) (row1 x1) x6 x0 (ix2 r p) = axt x0 x6 r p * sc x1 p * sc x3 p := by
    intro r p
    refine congrArg₂ (fun a b : EReal => a * b) (pay7_at x0 x1 x6 r p) ?_
    rw [broadcastTo_1b_ab_apply, scale_row]
  have hv : ∀ j, Re (k0_pay9 (row0 x3) (row1 x3) (row0 x1) (row1 x1) x6 x0 j) := by
    refine forall_ix2 fun r p => ?_
    rw [e]
    exact ((ha _ _).mul (h1 _)).mul (h3 _)
  have key := fun r p => parts_at _ hv r p (k0_pay10 (row0 x3) (row1 x3) (row0 x1) (row1 x1) x6 x0) (k0_pay12 (row0 x3) (row1 x3) (row0 x1) (row1 x1) x6 x0)
    (truncf .bf16 (k0_pay13 (row0 x3) (row1 x3) (row0 x1) (row1 x1) x6 x0) bitsLt_bf16_f32) rfl (fun _ => rfl) (fun _ => rfl)
    concatenates_S32x256_S32x256_S32x256_S96x256_d0
  unfold DB k0_pay14
  simp only [shapeCast_self]
  refine congrArg (fun b : EReal => two * b) ?_
  exact slices_at (φ := .fp8e5m2) _ x2 (fun r p => axt x0 x6 r p * sc x1 p * sc x3 p) dot_S96x256_S256x18432_S96x18432_1_0_0_1_n_n rfl
    (fun r p => ⟨(key r p).1.trans (e r p), (key r p).2⟩) _ _ _ r o

end Cert.KernelIdeal.Hand
end
-- ==== Proof.KArr.lean ====
/- What the kernel's arrays hold: its inputs as functions of the arguments, its results after the run, block by block. -/
module

public import proofs.«01_k».proof.Proof.KFrame
public import proofs.«01_k».proof.Proof.KIdx
public import Idealize.ShloMosaic.Lib.Pipeline.Value
public import Idealize.ShloMosaic.Lib.StableHlo.Run

@[expose] public section

set_option maxRecDepth 16384

noncomputable section

namespace Cert.KernelIdeal.Hand

open Idealize.ShloMosaic hiding ix1 ix2 ix3 eq_ix2
open Idealize.ShloMosaic.ValueIdx
open Idealize.ShloMosaic.TcCoe Idealize.SL.Sem
open Idealize.ShloMosaic.Pipeline (Dat)
open Cert.KernelIdeal.Gen Cert.Val

variable (m : (ℓ : Loc nD τ sig) → Buf (Elt Ideal) ℓ)

/-! ## The inputs -/

theorem bk6_eq (c : Dev nD) : bk6 m c = m ((c : Thread nD τ).loc main_arg6) := by
  funext i
  unfold bk6 iblk
  rw [View.read_apply]
  show V m c main_arg6 _ = _
  rw [V_main_arg6]
  refine congrArg (m ((c : Thread nD τ).loc main_arg6)) ?_
  funext a; apply Fin.ext
  match a with
  | ⟨0, _⟩ => show win0_6.index t0 0 * 7168 + 1 * (i 0).val = (i 0).val; rw [show win0_6.index t0 0 = 0 from rfl]; omega
  | ⟨1, _⟩ => show win0_6.index t0 1 * 32 + 1 * (i 1).val = (i 1).val; rw [show win0_6.index t0 1 = 0 from rfl]; omega

theorem bk7_eq (c : Dev nD) : bk7 m c = m ((c : Thread nD τ).loc main_arg7) := by
  funext i
  unfold bk7 iblk
  rw [View.read_apply]
  show V m c main_arg7 _ = _
  rw [V_main_arg7]
  refine congrArg (m ((c : Thread nD τ).loc main_arg7)) ?_
  funext a; apply Fin.ext
  match a with
  | ⟨0, _⟩ => show win0_7.index t0 0 * 32 + 1 * (i 0).val = (i 0).val; rw [show win0_7.index t0 0 = 0 from rfl]; omega
  | ⟨1, _⟩ => show win0_7.index t0 1 * 18432 + 1 * (i 1).val = (i 1).val; rw [show win0_7.index t0 1 = 0 from rfl]; omega

theorem bk1_eq (c : Dev nD) : bk1 m c = m ((c : Thread nD τ).loc main_arg1) := by
  funext i
  unfold bk1 iblk
  rw [View.read_apply]
  show V m c main_arg1 _ = _
  rw [V_main_arg1]
  refine congrArg (m ((c : Thread nD τ).loc main_arg1)) ?_
  funext a; apply Fin.ext
  match a with
  | ⟨0, _⟩ => show win0_1.index t0 0 * 2 + 1 * (i 0).val = (i 0).val; rw [show win0_1.index t0 0 = 0 from rfl]; omega
  | ⟨1, _⟩ => show win0_1.index t0 1 * 128 + 1 * (i 1).val = (i 1).val; rw [show win0_1.index t0 1 = 0 from rfl]; omega

theorem bk3_eq (c : Dev nD) : bk3 m c = m ((c : Thread nD τ).loc main_arg3) := by
  funext i
  unfold bk3 iblk
  rw [View.read_apply]
  show V m c main_arg3 _ = _
  rw [V_main_arg3]
  refine congrArg (m ((c : Thread nD τ).loc main_arg3)) ?_
  funext a; apply Fin.ext
  match a with
  | ⟨0, _⟩ => show win0_3.index t0 0 * 2 + 1 * (i 0).val = (i 0).val; rw [show win0_3.index t0 0 = 0 from rfl]; omega
  | ⟨1, _⟩ => show win0_3.index t0 1 * 128 + 1 * (i 1).val = (i 1).val; rw [show win0_3.index t0 1 = 0 from rfl]; omega

/-- The base weight's block at a point holds 512 of its rows. -/
theorem bk4_at (c : Dev nD) (t : Fin cfg0.N) (k : Fin 512) (o : Fin 18432) (d : Fin 7168) (hd : d.val = 512 * t.val + k.val) :
    bk4 m c t (ix2 k o) = m ((c : Thread nD τ).loc main_arg4) (ix2 d o) := by
  have hi : ∀ t : Fin cfg0.N, win0_4.index t 0 = t.val ∧ win0_4.index t 1 = 0 :=
    (by decide +kernel : ∀ t : Fin grid0.N, win0_4.index t 0 = t.val ∧ win0_4.index t 1 = 0)
  unfold bk4 iblk
  rw [View.read_apply]
  show V m c main_arg4 _ = _
  rw [V_main_arg4]
  refine congrArg (m ((c : Thread nD τ).loc main_arg4)) ?_
  funext a; apply Fin.ext
  match a with
  | ⟨0, _⟩ => show win0_4.index t 0 * 512 + 1 * k.val = d.val; rw [(hi t).1]; omega
  | ⟨1, _⟩ => show win0_4.index t 1 * 18432 + 1 * o.val = o.val; rw [(hi t).2]; omega

/-- What the host's preparation leaves: `x`, `dy` and the row of the weight's scales. -/
theorem V_main_v2 (c : Dev nD) : V m c main_v2
    = shapeCast S256x7168 (bitcastToFloat .fp8e4m3 (m ((c : Thread nD τ).loc main_arg0)) : FVec Ideal S2x128x7168 .fp8e4m3) shapeCasts_S2x128x7168_S256x7168 := by
  unfold V
  after_results
  all_goals rfl

theorem V_main_v3 (c : Dev nD) : V m c main_v3
    = shapeCast S256x18432 (bitcastToFloat .fp8e5m2 (m ((c : Thread nD τ).loc main_arg2)) : FVec Ideal S2x128x18432 .fp8e5m2) shapeCasts_S2x128x18432_S256x18432 := by
  unfold V
  after_results
  all_goals rfl

theorem V_main_v4 (c : Dev nD) : V m c main_v4
    = shapeCast S1x18432 (m ((c : Thread nD τ).loc main_arg5)) shapeCasts_S18432_S1x18432 := by
  unfold V
  after_results
  all_goals rfl

theorem bk0_at (c : Dev nD) (p : Fin 256) (d : Fin 7168) : bk0 m c (ix2 p d)
    = Ideal.ofBits .fp8e4m3 (m ((c : Thread nD τ).loc main_arg0)
        (ix3 (⟨p.val / 128, by omega⟩ : Fin 2) (⟨p.val % 128, Nat.mod_lt _ (by decide)⟩ : Fin 128) d)) := by
  have e : bk0 m c (ix2 p d) = V m c main_v2 (ix2 p d) := by
    unfold bk0 iblk
    rw [View.read_apply]
    show V m c main_v2 _ = _
    refine congrArg (V m c main_v2) ?_
    funext a; apply Fin.ext
    match a with
    | ⟨0, _⟩ => show win0_0.index t0 0 * 256 + 1 * p.val = p.val; rw [show win0_0.index t0 0 = 0 from rfl]; omega
    | ⟨1, _⟩ => show win0_0.index t0 1 * 7168 + 1 * d.val = d.val; rw [show win0_0.index t0 1 = 0 from rfl]; omega
  rw [e, V_main_v2, shapeCast_apply _ _ (ix2 p d)
    (ix3 (⟨p.val / 128, by omega⟩ : Fin 2) (⟨p.val % 128, Nat.mod_lt _ (by decide)⟩ : Fin 128) d)
    (by rw [Shape.rowMajor_val_three, Shape.rowMajor_val_two]
        show (p.val / 128 * 128 + p.val % 128) * 7168 + d.val = p.val * 7168 + d.val
        omega)]
  rfl

theorem bk2_at (c : Dev nD) (p : Fin 256) (o : Fin 18432) : bk2 m c (ix2 p o)
    = Ideal.ofBits .fp8e5m2 (m ((c : Thread nD τ).loc main_arg2)
        (ix3 (⟨p.val / 128, by omega⟩ : Fin 2) (⟨p.val % 128, Nat.mod_lt _ (by decide)⟩ : Fin 128) o)) := by
  have e : bk2 m c (ix2 p o) = V m c main_v3 (ix2 p o) := by
    unfold bk2 iblk
    rw [View.read_apply]
    show V m c main_v3 _ = _
    refine congrArg (V m c main_v3) ?_
    funext a; apply Fin.ext
    match a with
    | ⟨0, _⟩ => show win0_2.index t0 0 * 256 + 1 * p.val = p.val; rw [show win0_2.index t0 0 = 0 from rfl]; omega
    | ⟨1, _⟩ => show win0_2.index t0 1 * 18432 + 1 * o.val = o.val; rw [show win0_2.index t0 1 = 0 from rfl]; omega
  rw [e, V_main_v3, shapeCast_apply _ _ (ix2 p o)
    (ix3 (⟨p.val / 128, by omega⟩ : Fin 2) (⟨p.val % 128, Nat.mod_lt _ (by decide)⟩ : Fin 128) o)
    (by rw [Shape.rowMajor_val_three, Shape.rowMajor_val_two]
        show (p.val / 128 * 128 + p.val % 128) * 18432 + o.val = p.val * 18432 + o.val
        omega)]
  rfl

theorem bk5_at (c : Dev nD) (o : Fin 18432) : bk5 m c (ix2 (0 : Fin 1) o) = m ((c : Thread nD τ).loc main_arg5) (ix1 o) := by
  have e : bk5 m c (ix2 (0 : Fin 1) o) = V m c main_v4 (ix2 (0 : Fin 1) o) := by
    unfold bk5 iblk
    rw [View.read_apply]
    show V m c main_v4 _ = _
    refine congrArg (V m c main_v4) ?_
    funext a; apply Fin.ext
    match a with
    | ⟨0, _⟩ => show win0_5.index t0 0 * 1 + 1 * 0 = 0; rw [show win0_5.index t0 0 = 0 from rfl]
    | ⟨1, _⟩ => show win0_5.index t0 1 * 18432 + 1 * o.val = o.val; rw [show win0_5.index t0 1 = 0 from rfl]; omega
  rw [e, V_main_v4]
  exact shapeCast_a_1a_apply _ _ (0 : Fin 1) o

/-! ## The results -/

theorem inj8 : ∀ t t' : Fin cfg0.N, win0_8.index t = win0_8.index t' → t = t' :=
  (by decide +kernel : ∀ t t' : Fin grid0.N, win0_8.index t = win0_8.index t' → t = t')
theorem inj9 : ∀ t t' : Fin cfg0.N, win0_9.index t = win0_9.index t' → t = t' :=
  (by decide +kernel : ∀ t t' : Fin grid0.N, win0_9.index t = win0_9.index t' → t = t')

/-- Result 1, 512 columns at a time. -/
theorem arr8_at (c : Dev nD) (t : Fin cfg0.N) (p : Fin 256) (k : Fin 512) (d : Fin 7168) (hd : d.val = 512 * t.val + k.val) :
    (dats m 0 c).arrAt 8 cfg0.N (ix2 p d) = dxAt m c t (ix2 p k) := by
  have h := (dats m 0 c).read_blk_arrAt_eq_flushed 8
    (fun t t' _ _ hne => (cfg0.win 8).disjoint_blk fun h => hne (inj8 t t' h)) cfg0.N t t.isLt (flush0_8 t)
  have hi : ∀ t : Fin cfg0.N, win0_8.index t 0 = 0 ∧ win0_8.index t 1 = t.val :=
    (by decide +kernel : ∀ t : Fin grid0.N, win0_8.index t 0 = 0 ∧ win0_8.index t 1 = t.val)
  have h2 := congrFun h (ix2 p k)
  have h3 : (dats m 0 c).flushed 8 t = dxAt m c t := by
    show (cfg0.win 8).cut (grid0.coords t) ((dats m 0 c).after 8 t) = _
    rw [after0_8]
    rfl
  rw [h3, View.read_apply] at h2
  refine Eq.trans ?_ h2
  show (dats m 0 c).arrAt 8 cfg0.N _ = (dats m 0 c).arrAt 8 cfg0.N _
  refine congrArg ((dats m 0 c).arrAt 8 cfg0.N) ?_
  funext a; apply Fin.ext
  match a with
  | ⟨0, _⟩ => show p.val = win0_8.index t 0 * 256 + 1 * p.val; rw [(hi t).1]; omega
  | ⟨1, _⟩ => show d.val = win0_8.index t 1 * 512 + 1 * k.val; rw [(hi t).2]; omega

/-- Result 2, 512 rows at a time. -/
theorem arr9_at (c : Dev nD) (t : Fin cfg0.N) (r : Fin 32) (k : Fin 512) (d : Fin 7168) (hd : d.val = 512 * t.val + k.val) :
    (dats m 0 c).arrAt 9 cfg0.N (ix2 d r) = daAt m c t (ix2 k r) := by
  have h := (dats m 0 c).read_blk_arrAt_eq_flushed 9
    (fun t t' _ _ hne => (cfg0.win 9).disjoint_blk fun h => hne (inj9 t t' h)) cfg0.N t t.isLt (flush0_9 t)
  have hi : ∀ t : Fin cfg0.N, win0_9.index t 0 = t.val ∧ win0_9.index t 1 = 0 :=
    (by decide +kernel : ∀ t : Fin grid0.N, win0_9.index t 0 = t.val ∧ win0_9.index t 1 = 0)
  have h2 := congrFun h (ix2 k r)
  have h3 : (dats m 0 c).flushed 9 t = daAt m c t := by
    show (cfg0.win 9).cut (grid0.coords t) ((dats m 0 c).after 9 t) = _
    rw [after0_9]
    rfl
  rw [h3, View.read_apply] at h2
  refine Eq.trans ?_ h2
  show (dats m 0 c).arrAt 9 cfg0.N _ = (dats m 0 c).arrAt 9 cfg0.N _
  refine congrArg ((dats m 0 c).arrAt 9 cfg0.N) ?_
  funext a; apply Fin.ext
  match a with
  | ⟨0, _⟩ => show d.val = win0_9.index t 0 * 512 + 1 * k.val; rw [(hi t).1]; omega
  | ⟨1, _⟩ => show r.val = win0_9.index t 1 * 32 + 1 * r.val; rw [(hi t).2]; omega

/-- Two points that are the last are one. -/
theorem last_unique (t t' : Fin cfg0.N) (h : t.val % 14 = 13) (h' : t'.val % 14 = 13) : t = t' := by
  have e : t.val < 14 := Nat.lt_of_lt_of_eq t.isLt N_0
  have e' : t'.val < 14 := Nat.lt_of_lt_of_eq t'.isLt N_0
  exact Fin.ext (by omega)

/-- Result 3. -/
theorem arr10_at (c : Dev nD) (t : Fin cfg0.N) (hf : (cfg0.win 10).flush t = true) (r : Fin 32) (o : Fin 18432) : (dats m 0 c).arrAt 10 cfg0.N (ix2 r o) = dbAt m c (ix2 r o) := by
  have h := (dats m 0 c).read_blk_arrAt_eq_flushed 10
    (fun t t' a b hne => absurd (last_unique t t' ((flush0_10 t).mp a) ((flush0_10 t').mp b)) hne) cfg0.N t t.isLt hf
  have h2 := congrFun h (ix2 r o)
  have h3 : (dats m 0 c).flushed 10 t = dbAt m c := by
    show (cfg0.win 10).cut (grid0.coords t) ((dats m 0 c).after 10 t) = _
    rw [after0_10]
    rfl
  rw [h3, View.read_apply] at h2
  rw [← h2]
  generalize (dats m 0 c).arrAt 10 cfg0.N = A
  refine congrArg A ?_
  funext a; apply Fin.ext
  match a with
  | ⟨0, _⟩ => show r.val = win0_10.index t 0 * 32 + 1 * r.val; rw [show win0_10.index t 0 = 0 from rfl]; omega
  | ⟨1, _⟩ => show o.val = win0_10.index t 1 * 18432 + 1 * o.val; rw [show win0_10.index t 1 = 0 from rfl]; omega

/-- Result 4. -/
theorem arr11_at (c : Dev nD) (t : Fin cfg0.N) (hf : (cfg0.win 11).flush t = true) (p : Fin 256) (r : Fin 32) : (dats m 0 c).arrAt 11 cfg0.N (ix2 p r) = ttAt m c (ix2 p r) := by
  have h := (dats m 0 c).read_blk_arrAt_eq_flushed 11
    (fun t t' a b hne => absurd (last_unique t t' ((flush0_11 t).mp a) ((flush0_11 t').mp b)) hne) cfg0.N t t.isLt hf
  have h2 := congrFun h (ix2 p r)
  have h3 : (dats m 0 c).flushed 11 t = ttAt m c := by
    show (cfg0.win 11).cut (grid0.coords t) ((dats m 0 c).after 11 t) = _
    rw [after0_11]
    rfl
  rw [h3, View.read_apply] at h2
  rw [← h2]
  generalize (dats m 0 c).arrAt 11 cfg0.N = A
  refine congrArg A ?_
  funext a; apply Fin.ext
  match a with
  | ⟨0, _⟩ => show p.val = win0_11.index t 0 * 256 + 1 * p.val; rw [show win0_11.index t 0 = 0 from rfl]; omega
  | ⟨1, _⟩ => show r.val = win0_11.index t 1 * 32 + 1 * r.val; rw [show win0_11.index t 1 = 0 from rfl]; omega

/-- Result 5. -/
theorem arr12_at (c : Dev nD) (t : Fin cfg0.N) (hf : (cfg0.win 12).flush t = true) (p : Fin 256) (r : Fin 32) : (dats m 0 c).arrAt 12 cfg0.N (ix2 p r) = xaAt m c (ix2 p r) := by
  have h := (dats m 0 c).read_blk_arrAt_eq_flushed 12
    (fun t t' a b hne => absurd (last_unique t t' ((flush0_12 t).mp a) ((flush0_12 t').mp b)) hne) cfg0.N t t.isLt hf
  have h2 := congrFun h (ix2 p r)
  have h3 : (dats m 0 c).flushed 12 t = xaAt m c := by
    show (cfg0.win 12).cut (grid0.coords t) ((dats m 0 c).after 12 t) = _
    rw [after0_12]
    rfl
  rw [h3, View.read_apply] at h2
  rw [← h2]
  generalize (dats m 0 c).arrAt 12 cfg0.N = A
  refine congrArg A ?_
  funext a; apply Fin.ext
  match a with
  | ⟨0, _⟩ => show p.val = win0_12.index t 0 * 256 + 1 * p.val; rw [show win0_12.index t 0 = 0 from rfl]; omega
  | ⟨1, _⟩ => show r.val = win0_12.index t 1 * 32 + 1 * r.val; rw [show win0_12.index t 1 = 0 from rfl]; omega

end Cert.KernelIdeal.Hand
end
-- ==== Proof.Law.lean ====
/- The five results as plain sums of the arguments' values, and the other ways of writing each that are equal to them. -/
module

public import proofs.«01_k».proof.Proof.Alg
public import Idealize.ShloMosaic.Lib.ValueIdx

@[expose] public section

noncomputable section

namespace Cert.Val

open Idealize.ShloMosaic.ValueIdx
open scoped BigOperators

/-! ## The arguments' values -/

/-- A matrix of fp8 codes in two groups of 128 rows, as the values of its 256 rows. -/
def codes (φ : Idealize.ShloMosaic.FTy) {n : ℕ} (a : (⟨3, ![2, 128, n]⟩ : Idealize.ShloMosaic.Shape).Idx → BitVec φ.bits) (p : Fin 256) (d : Fin n) : EReal :=
  Idealize.ShloMosaic.Ideal.ofBits φ (a (ix3 (⟨p.val / 128, by omega⟩ : Fin 2) (⟨p.val % 128, Nat.mod_lt _ (by decide)⟩ : Fin 128) d))
/-- The rows' scales. -/
def scales (a : (⟨2, ![2, 128]⟩ : Idealize.ShloMosaic.Shape).Idx → EReal) (p : Fin 256) : EReal :=
  a (ix2 (⟨p.val / 128, by omega⟩ : Fin 2) (⟨p.val % 128, Nat.mod_lt _ (by decide)⟩ : Fin 128))
/-- A matrix, by row and column. -/
def mat {n k : ℕ} (a : (⟨2, ![n, k]⟩ : Idealize.ShloMosaic.Shape).Idx → EReal) (i : Fin n) (j : Fin k) : EReal := a (ix2 i j)
/-- A vector, by index. -/
def vec {n : ℕ} (a : (⟨1, ![n]⟩ : Idealize.ShloMosaic.Shape).Idx → EReal) (i : Fin n) : EReal := a (ix1 i)

/-! ## The results -/

variable {P D O R : Type} [Fintype P] [Fintype D] [Fintype O] [Fintype R]
variable (X : P → D → EReal) (xs : P → EReal) (Y : P → O → EReal) (ys : P → EReal) (W : D → O → EReal) (ws : O → EReal) (A : D → R → EReal) (B : R → O → EReal) (z : EReal)

/-- `t`: the output gradient through the second adapter. -/
def resT (p : P) (r : R) : EReal := (∑ o, Y p o * B r o) * ys p
/-- `xa`: the input through the first adapter. -/
def resXA (p : P) (r : R) : EReal := (∑ d, X p d * A d r) * xs p
/-- The gradient of the input. -/
def resDX (p : P) (d : D) : EReal := (∑ o, Y p o * (W d o * ws o)) * ys p + z * ∑ r, resT Y ys B p r * A d r
/-- The gradient of the first adapter. -/
def resDA (d : D) (r : R) : EReal := z * ∑ p, X p d * (xs p * resT Y ys B p r)
/-- The gradient of the second adapter. -/
def resDB (r : R) (o : O) : EReal := z * ∑ p, resXA X xs A p r * ys p * Y p o

theorem by_eq (p : P) (r : R) : ∑ o, B r o * Y p o = ∑ o, Y p o * B r o :=
  Finset.sum_congr rfl fun o _ => mul_comm _ _

theorem eqT (p : P) (r : R) : (∑ o, B r o * Y p o) * ys p = resT Y ys B p r := by
  rw [by_eq]; rfl

theorem eqXA (p : P) (r : R) : (∑ d, A d r * X p d) * xs p = resXA X xs A p r := by
  unfold resXA
  exact congrArg (· * xs p) (Finset.sum_congr rfl fun d _ => mul_comm _ _)

theorem eqDX (hY : ∀ p o, Re (Y p o)) (hys : ∀ p, Re (ys p)) (hA : ∀ d r, Re (A d r)) (hB : ∀ r o, Re (B r o)) (hz : Re z) (p : P) (d : D) :
    ((∑ o, Y p o * ws o * W d o) + ∑ r, z * (∑ o, B r o * Y p o) * A d r) * ys p = resDX Y ys W ws A B z p d := by
  have hb : ∀ r, Re (∑ o, Y p o * B r o) := fun r => Re.sum _ fun o => (hY p o).mul (hB r o)
  have e : ∀ r, z * (∑ o, B r o * Y p o) * A d r = z * ((∑ o, Y p o * B r o) * A d r) := fun r => by rw [by_eq, mul_assoc]
  have hr : Re (∑ r, z * (∑ o, B r o * Y p o) * A d r) := Re.sum _ fun r => by rw [e]; exact hz.mul ((hb r).mul (hA d r))
  rw [add_mul_of_finite _ hr (hys p)]
  unfold resDX
  refine congrArg₂ (· + ·) ?_ ?_
  · exact congrArg (· * ys p) (Finset.sum_congr rfl fun o _ => by rw [mul_assoc, mul_comm (ws o)])
  · rw [Finset.sum_congr rfl fun r _ => e r, ← hz.mul_sum _ fun r => (hb r).mul (hA d r), mul_assoc, mul_comm _ (ys p),
      (hys p).mul_sum _ fun r => (hb r).mul (hA d r)]
    refine congrArg (z * ·) (Finset.sum_congr rfl fun r _ => ?_)
    unfold resT
    rw [mul_comm (∑ o, Y p o * B r o) (ys p), mul_assoc]

theorem eqDA (d : D) (r : R) : z * ∑ p, xs p * ((∑ o, B r o * Y p o) * ys p) * X p d = resDA X xs Y ys B z d r := by
  unfold resDA
  refine congrArg (z * ·) (Finset.sum_congr rfl fun p _ => ?_)
  rw [eqT, mul_comm]

theorem eqDB (r : R) (o : O) : z * ∑ p, (∑ d, A d r * X p d) * xs p * ys p * Y p o = resDB X xs Y ys A z r o := by
  unfold resDB
  refine congrArg (z * ·) (Finset.sum_congr rfl fun p _ => ?_)
  rw [eqXA]

end Cert.Val
end
-- ==== Proof.KRes.lean ====
/- The kernel's five result arrays after the run are the five results of its arguments' values, where these are finite. -/
module

public import proofs.«01_k».proof.Proof.KArr
public import proofs.«01_k».proof.Proof.Law

@[expose] public section

set_option maxRecDepth 16384

noncomputable section

namespace Cert.KernelIdeal.Hand

open Idealize.ShloMosaic hiding ix1 ix2 ix3 eq_ix2
open Idealize.ShloMosaic.ValueIdx
open Idealize.ShloMosaic.TcCoe Idealize.SL.Sem
open Cert.KernelIdeal.Gen Cert.Val
open scoped BigOperators

variable (m : (ℓ : Loc nD τ sig) → Buf (Elt Ideal) ℓ)

/-- The values of the arguments. -/
def vX (c : Dev nD) : Fin 256 → Fin 7168 → EReal := codes .fp8e4m3 (m ((c : Thread nD τ).loc main_arg0))
def vXs (c : Dev nD) : Fin 256 → EReal := scales (m ((c : Thread nD τ).loc main_arg1))
def vY (c : Dev nD) : Fin 256 → Fin 18432 → EReal := codes .fp8e5m2 (m ((c : Thread nD τ).loc main_arg2))
def vYs (c : Dev nD) : Fin 256 → EReal := scales (m ((c : Thread nD τ).loc main_arg3))
def vW (c : Dev nD) : Fin 7168 → Fin 18432 → EReal := mat (m ((c : Thread nD τ).loc main_arg4))
def vWs (c : Dev nD) : Fin 18432 → EReal := vec (m ((c : Thread nD τ).loc main_arg5))
def vA (c : Dev nD) : Fin 7168 → Fin 32 → EReal := mat (m ((c : Thread nD τ).loc main_arg6))
def vB (c : Dev nD) : Fin 32 → Fin 18432 → EReal := mat (m ((c : Thread nD τ).loc main_arg7))

theorem eX (c : Dev nD) (p : Fin 256) (d : Fin 7168) : bk0 m c (ix2 p d) = vX m c p d := bk0_at m c p d
theorem eXs (c : Dev nD) (p : Fin 256) : sc (bk1 m c) p = vXs m c p := by rw [bk1_eq]; rfl
theorem eY (c : Dev nD) (p : Fin 256) (o : Fin 18432) : bk2 m c (ix2 p o) = vY m c p o := bk2_at m c p o
theorem eYs (c : Dev nD) (p : Fin 256) : sc (bk3 m c) p = vYs m c p := by rw [bk3_eq]; rfl
theorem eWs (c : Dev nD) (o : Fin 18432) : bk5 m c (ix2 (0 : Fin 1) o) = vWs m c o := bk5_at m c o
theorem eA (c : Dev nD) (d : Fin 7168) (r : Fin 32) : bk6 m c (ix2 d r) = vA m c d r := by rw [bk6_eq]; rfl
theorem eB (c : Dev nD) (r : Fin 32) (o : Fin 18432) : bk7 m c (ix2 r o) = vB m c r o := by rw [bk7_eq]; rfl

theorem eBdy (c : Dev nD) (r : Fin 32) (p : Fin 256) : bdy (bk2 m c) (bk7 m c) r p = ∑ o, vB m c r o * vY m c p o :=
  Finset.sum_congr rfl fun o _ => by rw [eB, eY]
theorem eAxt (c : Dev nD) (r : Fin 32) (p : Fin 256) : axt (bk0 m c) (bk6 m c) r p = ∑ d, vA m c d r * vX m c p d :=
  Finset.sum_congr rfl fun d _ => by rw [eA, eX]

/-- The grid point of a row of the base weight, and the row within its block. -/
def pt (d : Fin 7168) : Fin cfg0.N := ⟨d.val / 512, by rw [show cfg0.N = 14 from N_0]; omega⟩
def row (d : Fin 7168) : Fin 512 := ⟨d.val % 512, Nat.mod_lt _ (by decide)⟩
theorem pt_row (d : Fin 7168) : d.val = 512 * (pt d).val + (row d).val := (Nat.div_add_mod _ _).symm
theorem coord (t : Fin cfg0.N) : (grid0.coords t 0).val = t.val :=
  (by decide +kernel : ∀ t : Fin grid0.N, (grid0.coords t 0).val = t.val) t

/-- The arguments that must be finite are. -/
structure Ok (c : Dev nD) : Prop where
  x : ∀ p d, Re (vX m c p d)
  xs : ∀ p, Re (vXs m c p)
  y : ∀ p o, Re (vY m c p o)
  ys : ∀ p, Re (vYs m c p)
  a : ∀ d r, Re (vA m c d r)
  b : ∀ r o, Re (vB m c r o)

variable {m} {c : Dev nD} (h : Ok m c)
include h

theorem Ok.bdy (r : Fin 32) (p : Fin 256) : Re (bdy (bk2 m c) (bk7 m c) r p) := by
  rw [eBdy]; exact Re.sum _ fun o => (h.b r o).mul (h.y p o)
theorem Ok.axt (r : Fin 32) (p : Fin 256) : Re (axt (bk0 m c) (bk6 m c) r p) := by
  rw [eAxt]; exact Re.sum _ fun d => (h.a d r).mul (h.x p d)
theorem Ok.sc1 (p : Fin 256) : Re (sc (bk1 m c) p) := by rw [eXs]; exact h.xs p
theorem Ok.sc3 (p : Fin 256) : Re (sc (bk3 m c) p) := by rw [eYs]; exact h.ys p

theorem res8 (p : Fin 256) (d : Fin 7168) : (dats m 0 c).arrAt 8 cfg0.N (ix2 p d)
    = resDX (vY m c) (vYs m c) (vW m c) (vWs m c) (vA m c) (vB m c) two p d := by
  rw [arr8_at m c (pt d) p (row d) d (pt_row d), ← eqDX _ _ _ _ _ _ _ h.y h.ys h.a h.b two_re]
  unfold dxAt
  rw [DX_at (bk2 m c) (bk3 m c) (bk4 m c (pt d)) (bk5 m c) (bk6 m c) (bk7 m c) (grid0.coords (pt d)) h.bdy p (row d) d (by rw [coord]; exact pt_row d), eYs]
  refine congrArg (fun s : EReal => s * vYs m c p) (congrArg₂ (fun s t : EReal => s + t) (Finset.sum_congr rfl fun o _ => ?_) (Finset.sum_congr rfl fun r _ => ?_))
  · rw [eY, eWs, bk4_at m c (pt d) (row d) o d (pt_row d)]; rfl
  · rw [eBdy, eA]

theorem res9 (d : Fin 7168) (r : Fin 32) : (dats m 0 c).arrAt 9 cfg0.N (ix2 d r)
    = resDA (vX m c) (vXs m c) (vY m c) (vYs m c) (vB m c) two d r := by
  rw [arr9_at m c (pt d) r (row d) d (pt_row d), ← eqDA]
  unfold daAt
  rw [DA_at (bk0 m c) (bk1 m c) (bk2 m c) (bk3 m c) (bk7 m c) (grid0.coords (pt d)) h.bdy h.sc1 h.sc3 (row d) r d (by rw [coord]; exact pt_row d)]
  refine congrArg (fun s : EReal => two * s) (Finset.sum_congr rfl fun p _ => ?_)
  rw [eXs, eYs, eBdy, eX]

theorem res10 (r : Fin 32) (o : Fin 18432) : (dats m 0 c).arrAt 10 cfg0.N (ix2 r o)
    = resDB (vX m c) (vXs m c) (vY m c) (vYs m c) (vA m c) two r o := by
  rw [arr10_at m c t0_13 ((flush0_10 t0_13).mpr rfl), ← eqDB]
  unfold dbAt
  rw [DB_at (bk0 m c) (bk1 m c) (bk2 m c) (bk3 m c) (bk6 m c) h.axt h.sc1 h.sc3 r o]
  refine congrArg (fun s : EReal => two * s) (Finset.sum_congr rfl fun p _ => ?_)
  rw [eXs, eYs, eAxt, eY]

omit h in
theorem res11 (p : Fin 256) (r : Fin 32) : (dats m 0 c).arrAt 11 cfg0.N (ix2 p r) = resT (vY m c) (vYs m c) (vB m c) p r := by
  rw [arr11_at m c t0_13 ((flush0_11 t0_13).mpr rfl), ← eqT]
  unfold ttAt
  rw [TT_at (bk2 m c) (bk3 m c) (bk7 m c) p r, eYs, eBdy]

omit h in
theorem res12 (p : Fin 256) (r : Fin 32) : (dats m 0 c).arrAt 12 cfg0.N (ix2 p r) = resXA (vX m c) (vXs m c) (vA m c) p r := by
  rw [arr12_at m c t0_13 ((flush0_12 t0_13).mpr rfl), ← eqXA]
  unfold xaAt
  rw [XA_at (bk0 m c) (bk1 m c) (bk6 m c) p r, eXs, eAxt]

end Cert.KernelIdeal.Hand
end
-- ==== Proof.RIdx.lean ====
/- The reference's five results at one index, at the exact instance, as plain sums over the rows and columns of its arguments. -/
module

public import proofs.«01_k».proof.Proof.Gen.ReferenceIdeal.Value
public import proofs.«01_k».proof.Proof.VIdx

@[expose] public section

set_option maxRecDepth 16384

noncomputable section

namespace Cert.ReferenceIdeal.Hand

open Idealize.ShloMosaic
open Idealize.ShloMosaic.ValueIdx
open Cert.ReferenceIdeal.Gen Cert.Val
open scoped BigOperators

variable (x0 : Vec Ideal S256x7168 .fp8e4m3) (x1 : Vec Ideal S256x1 .f32) (x2 : Vec Ideal S256x18432 .fp8e5m2) (x3 : Vec Ideal S256x1 .f32)
  (x4 : Vec Ideal S7168x18432 .fp8e4m3) (x5 : Vec Ideal S1x18432 .f32) (x6 : Vec Ideal S7168x32 .bf16) (x7 : Vec Ideal S32x18432 .bf16)

/-- Twice, as the reference writes it. -/
def two : EReal := Ideal.ofBits .f32 0x40000000#32
/-- `t`. -/
def tt (p : Fin 256) (r : Fin 32) : EReal := (∑ o : Fin 18432, (x2 (ix2 p o) : EReal) * x7 (ix2 r o)) * x3 (ix2 p (0 : Fin 1))
/-- `xa`. -/
def xa (p : Fin 256) (r : Fin 32) : EReal := (∑ d : Fin 7168, (x0 (ix2 p d) : EReal) * x6 (ix2 d r)) * x1 (ix2 p (0 : Fin 1))

theorem pay8_at (p : Fin 256) (r : Fin 32) : k0_pay8 x2 x7 x3 (ix2 p r) = tt x2 x3 x7 p r := by
  unfold k0_pay8 k0_pay7 k0_pay6 k0_pay4
  simp only [shapeCast_self]
  refine congrArg₂ (fun a b : EReal => a * b)
    (mm11 (φ₁ := .bf16) (φ₂ := .bf16) dot_S256x18432_S32x18432_S256x32_1_1_0_0_n_n rfl none _ x7 p r) ?_
  rw [broadcast_col]

theorem pay9_at (p : Fin 256) (r : Fin 32) : k0_pay9 x0 x6 x1 (ix2 p r) = xa x0 x1 x6 p r := by
  unfold k0_pay9 k0_pay5 k0_pay3
  simp only [shapeCast_self]
  refine congrArg₂ (fun a b : EReal => a * b)
    (mm10 (φ₁ := .bf16) (φ₂ := .bf16) dot_S256x7168_S7168x32_S256x32_1_0_0_1_n_n rfl none _ x6 p r) ?_
  rw [broadcast_col]

theorem pay10_at (p : Fin 256) (d : Fin 7168) : k0_pay10 x2 x6 x7 x3 x4 x5 (ix2 p d)
    = (∑ o : Fin 18432, (x2 (ix2 p o) : EReal) * (x4 (ix2 d o) * x5 (ix2 (0 : Fin 1) o))) * x3 (ix2 p (0 : Fin 1))
      + two * ∑ r : Fin 32, tt x2 x3 x7 p r * x6 (ix2 d r) := by
  unfold k0_pay10 k0_pay7 k0_pay6 k0_pay4
  simp only [shapeCast_self]
  refine congrArg₂ (fun a b : EReal => a + b) (congrArg₂ (fun a b : EReal => a * b) ?_ ?_) (congrArg (fun b : EReal => two * b) ?_)
  · refine (mm11 (φ₁ := .bf16) (φ₂ := .bf16) dot_S256x18432_S7168x18432_S256x7168_1_1_0_0_n_n rfl none _ _ p d).trans ?_
    refine Finset.sum_congr rfl fun o _ => congrArg₂ (fun a b : EReal => a * b) rfl (congrArg₂ (fun a b : EReal => a * b) rfl ?_)
    rw [broadcastTo_1b_ab_apply]
    rfl
  · rw [broadcast_col]
  · refine (mm11 (φ₁ := .f32) (φ₂ := .f32) dot_S256x32_S7168x32_S256x7168_1_1_0_0_n_n rfl (some .fp32) _ _ p d).trans ?_
    exact Finset.sum_congr rfl fun r _ => congrArg₂ (fun a b : EReal => a * b) (pay8_at x2 x3 x7 p r) rfl

/-- Result 2 of the body, from `t`. -/
theorem pay1_at (T : FVec Ideal S256x32 .f32) (d : Fin 7168) (r : Fin 32) : k0_pay1 (k0_pay5 x1) T (k0_pay11 x0) (ix2 d r)
    = two * ∑ p : Fin 256, (x0 (ix2 p d) : EReal) * (x1 (ix2 p (0 : Fin 1)) * T (ix2 p r)) := by
  unfold k0_pay1 k0_pay5 k0_pay11 k0_pay3
  simp only [shapeCast_self]
  refine congrArg (fun b : EReal => two * b) ?_
  refine (mm00 (φ₁ := .f32) (φ₂ := .f32) dot_S256x7168_S256x32_S7168x32_0_0_1_1_n_n rfl (some .fp32) _ _ d r).trans ?_
  refine Finset.sum_congr rfl fun p _ => congrArg₂ (fun a b : EReal => a * b) rfl (congrArg₂ (fun a b : EReal => a * b) ?_ rfl)
  rw [broadcast_col]

/-- Result 3 of the body, from `xa`. -/
theorem pay2_at (T : FVec Ideal S256x32 .f32) (r : Fin 32) (o : Fin 18432) : k0_pay2 (k0_pay4 x2) (k0_pay6 x3) T (ix2 r o)
    = two * ∑ p : Fin 256, (T (ix2 p r) : EReal) * x3 (ix2 p (0 : Fin 1)) * x2 (ix2 p o) := by
  unfold k0_pay2 k0_pay4 k0_pay6
  simp only [shapeCast_self]
  refine congrArg (fun b : EReal => two * b) ?_
  refine (mm00 (φ₁ := .f32) (φ₂ := .f32) dot_S256x32_S256x18432_S32x18432_0_0_1_1_n_n rfl (some .fp32) _ _ r o).trans ?_
  refine Finset.sum_congr rfl fun p _ => congrArg₂ (fun a b : EReal => a * b) (congrArg₂ (fun a b : EReal => a * b) rfl ?_) rfl
  rw [broadcast_col]

theorem hz2 : ∀ a : Fin 2, (![0, 0] : Fin 2 → Nat) a = 0 := by decide

/-- A whole-array load is the array, and a whole-array store leaves what it stores. -/
theorem ld_whole {S : Shape} {e : EltTy} (x : Vec Ideal S e) {off : Fin S.rank → Nat} (h : ∀ a, off a = 0) (inb : ∀ a, off a + S.size a ≤ S.size a) :
    View.ld x (Rect.unit off S.size inb) = x := by
  funext j
  show x _ = x _
  congr 1
  funext a; apply Fin.ext
  show off a + 1 * (j a).val = (j a).val
  rw [h a]; omega

theorem ld0 (x : Vec Ideal S256x7168 .fp8e4m3) : View.ld x r0_0 = x := ld_whole x hz2 _
theorem ld1 (x : Vec Ideal S256x18432 .fp8e5m2) : View.ld x r0_1 = x := ld_whole x hz2 _
theorem ld2 (x : Vec Ideal S7168x32 .bf16) : View.ld x r0_2 = x := ld_whole x hz2 _
theorem ld3 (x : Vec Ideal S32x18432 .bf16) : View.ld x r0_3 = x := ld_whole x hz2 _
theorem ld4 (x : Vec Ideal S256x1 .f32) : View.ld x r0_4 = x := ld_whole x hz2 _
theorem ld5 (x : Vec Ideal S7168x18432 .fp8e4m3) : View.ld x r0_5 = x := ld_whole x hz2 _
theorem ld6 (x : Vec Ideal S1x18432 .f32) : View.ld x r0_6 = x := ld_whole x hz2 _

/-- Result 4. -/
theorem out11_at (p : Fin 256) (r : Fin 32) : out0_11 x0 x1 x2 x3 x4 x5 x6 x7 (ix2 p r) = tt x2 x3 x7 p r := by
  unfold out0_11
  rw [View.canon_unit_zero (funext hz2)]
  unfold k0_pay12
  rw [ld1, ld3, ld4]
  exact pay8_at x2 x3 x7 p r

/-- Result 5. -/
theorem out12_at (p : Fin 256) (r : Fin 32) : out0_12 x0 x1 x2 x3 x4 x5 x6 x7 (ix2 p r) = xa x0 x1 x6 p r := by
  unfold out0_12
  rw [View.canon_unit_zero (funext hz2)]
  unfold k0_pay13
  rw [ld0, ld2, ld4]
  exact pay9_at x0 x1 x6 p r

/-- Result 1. -/
theorem out8_at (p : Fin 256) (d : Fin 7168) : out0_8 x0 x1 x2 x3 x4 x5 x6 x7 (ix2 p d)
    = (∑ o : Fin 18432, (x2 (ix2 p o) : EReal) * (x4 (ix2 d o) * x5 (ix2 (0 : Fin 1) o))) * x3 (ix2 p (0 : Fin 1))
      + two * ∑ r : Fin 32, tt x2 x3 x7 p r * x6 (ix2 d r) := by
  unfold out0_8
  rw [View.canon_unit_zero (funext hz2), ld1, ld2, ld3, ld4, ld5, ld6]
  exact pay10_at x2 x3 x4 x5 x6 x7 p d

/-- Result 2. -/
theorem out9_at (d : Fin 7168) (r : Fin 32) : out0_9 x0 x1 x2 x3 x4 x5 x6 x7 (ix2 d r)
    = two * ∑ p : Fin 256, (x0 (ix2 p d) : EReal) * (x1 (ix2 p (0 : Fin 1)) * tt x2 x3 x7 p r) := by
  unfold out0_9
  rw [View.canon_unit_zero (funext hz2)]
  unfold k0_pay12
  rw [ld0, ld1, ld3, ld4, ld4, pay1_at]
  exact congrArg (fun b : EReal => two * b) (Finset.sum_congr rfl fun p _ => by rw [pay8_at])

/-- Result 3. -/
theorem out10_at (r : Fin 32) (o : Fin 18432) : out0_10 x0 x1 x2 x3 x4 x5 x6 x7 (ix2 r o)
    = two * ∑ p : Fin 256, xa x0 x1 x6 p r * x3 (ix2 p (0 : Fin 1)) * x2 (ix2 p o) := by
  unfold out0_10
  rw [View.canon_unit_zero (funext hz2)]
  unfold k0_pay13
  rw [ld0, ld1, ld2, ld4, ld4, pay2_at]
  exact congrArg (fun b : EReal => two * b) (Finset.sum_congr rfl fun p _ => by rw [pay9_at])

end Cert.ReferenceIdeal.Hand
end
-- ==== Proof.RArr.lean ====
/- What the reference's arrays hold: its inputs as functions of the arguments, and its results after the run. -/
module

public import proofs.«01_k».proof.Proof.RIdx
public import Idealize.ShloMosaic.Lib.Pipeline.Value
public import Idealize.ShloMosaic.Lib.StableHlo.Run

@[expose] public section

set_option maxRecDepth 16384

noncomputable section

namespace Cert.ReferenceIdeal.Hand

open Idealize.ShloMosaic
open Idealize.ShloMosaic.ValueIdx
open Idealize.ShloMosaic.TcCoe Idealize.SL.Sem
open Idealize.ShloMosaic.Pipeline (Dat)
open Cert.ReferenceIdeal.Gen Cert.Val

variable (m : (ℓ : Loc nD τ sig) → Buf (Elt Ideal) ℓ)

/-! ## The inputs -/

theorem V_main_v2 (c : Dev nD) : V m c main_v2
    = shapeCast S256x7168 (bitcastToFloat .fp8e4m3 (m ((c : Thread nD τ).loc main_arg0)) : FVec Ideal S2x128x7168 .fp8e4m3) shapeCasts_S2x128x7168_S256x7168 := by
  unfold V
  after_results
  all_goals rfl
theorem V_main_v3 (c : Dev nD) : V m c main_v3
    = shapeCast S256x1 (m ((c : Thread nD τ).loc main_arg1)) shapeCasts_S2x128_S256x1 := by
  unfold V
  after_results
  all_goals rfl
theorem V_main_v4 (c : Dev nD) : V m c main_v4
    = shapeCast S256x18432 (bitcastToFloat .fp8e5m2 (m ((c : Thread nD τ).loc main_arg2)) : FVec Ideal S2x128x18432 .fp8e5m2) shapeCasts_S2x128x18432_S256x18432 := by
  unfold V
  after_results
  all_goals rfl
theorem V_main_v5 (c : Dev nD) : V m c main_v5
    = shapeCast S256x1 (m ((c : Thread nD τ).loc main_arg3)) shapeCasts_S2x128_S256x1 := by
  unfold V
  after_results
  all_goals rfl
theorem V_main_v6 (c : Dev nD) : V m c main_v6
    = shapeCast S1x18432 (m ((c : Thread nD τ).loc main_arg5)) shapeCasts_S18432_S1x18432 := by
  unfold V
  after_results
  all_goals rfl

theorem in0 (c : Dev nD) (t : Fin cfg0.N) : (iblk m c 0 t : Vec Ideal S256x7168 .fp8e4m3) = V m c main_v2 := by
  funext i
  unfold iblk
  rw [View.read_apply]
  show V m c main_v2 _ = _
  refine congrArg (V m c main_v2) ?_
  funext a; apply Fin.ext
  match a with
  | ⟨0, _⟩ => show win0_0.index t 0 * 256 + 1 * (i 0).val = (i 0).val; rw [show win0_0.index t 0 = 0 from rfl]; omega
  | ⟨1, _⟩ => show win0_0.index t 1 * 7168 + 1 * (i 1).val = (i 1).val; rw [show win0_0.index t 1 = 0 from rfl]; omega
theorem in1 (c : Dev nD) (t : Fin cfg0.N) : (iblk m c 1 t : Vec Ideal S256x1 .f32) = V m c main_v3 := by
  funext i
  unfold iblk
  rw [View.read_apply]
  show V m c main_v3 _ = _
  refine congrArg (V m c main_v3) ?_
  funext a; apply Fin.ext
  match a with
  | ⟨0, _⟩ => show win0_1.index t 0 * 256 + 1 * (i 0).val = (i 0).val; rw [show win0_1.index t 0 = 0 from rfl]; omega
  | ⟨1, _⟩ => show win0_1.index t 1 * 1 + 1 * (i 1).val = (i 1).val; rw [show win0_1.index t 1 = 0 from rfl]; omega
theorem in2 (c : Dev nD) (t : Fin cfg0.N) : (iblk m c 2 t : Vec Ideal S256x18432 .fp8e5m2) = V m c main_v4 := by
  funext i
  unfold iblk
  rw [View.read_apply]
  show V m c main_v4 _ = _
  refine congrArg (V m c main_v4) ?_
  funext a; apply Fin.ext
  match a with
  | ⟨0, _⟩ => show win0_2.index t 0 * 256 + 1 * (i 0).val = (i 0).val; rw [show win0_2.index t 0 = 0 from rfl]; omega
  | ⟨1, _⟩ => show win0_2.index t 1 * 18432 + 1 * (i 1).val = (i 1).val; rw [show win0_2.index t 1 = 0 from rfl]; omega
theorem in3 (c : Dev nD) (t : Fin cfg0.N) : (iblk m c 3 t : Vec Ideal S256x1 .f32) = V m c main_v5 := by
  funext i
  unfold iblk
  rw [View.read_apply]
  show V m c main_v5 _ = _
  refine congrArg (V m c main_v5) ?_
  funext a; apply Fin.ext
  match a with
  | ⟨0, _⟩ => show win0_3.index t 0 * 256 + 1 * (i 0).val = (i 0).val; rw [show win0_3.index t 0 = 0 from rfl]; omega
  | ⟨1, _⟩ => show win0_3.index t 1 * 1 + 1 * (i 1).val = (i 1).val; rw [show win0_3.index t 1 = 0 from rfl]; omega
theorem in4 (c : Dev nD) (t : Fin cfg0.N) : (iblk m c 4 t : Vec Ideal S7168x18432 .fp8e4m3) = V m c main_arg4 := by
  funext i
  unfold iblk
  rw [View.read_apply]
  show V m c main_arg4 _ = _
  refine congrArg (V m c main_arg4) ?_
  funext a; apply Fin.ext
  match a with
  | ⟨0, _⟩ => show win0_4.index t 0 * 7168 + 1 * (i 0).val = (i 0).val; rw [show win0_4.index t 0 = 0 from rfl]; omega
  | ⟨1, _⟩ => show win0_4.index t 1 * 18432 + 1 * (i 1).val = (i 1).val; rw [show win0_4.index t 1 = 0 from rfl]; omega
theorem in5 (c : Dev nD) (t : Fin cfg0.N) : (iblk m c 5 t : Vec Ideal S1x18432 .f32) = V m c main_v6 := by
  funext i
  unfold iblk
  rw [View.read_apply]
  show V m c main_v6 _ = _
  refine congrArg (V m c main_v6) ?_
  funext a; apply Fin.ext
  match a with
  | ⟨0, _⟩ => show win0_5.index t 0 * 1 + 1 * (i 0).val = (i 0).val; rw [show win0_5.index t 0 = 0 from rfl]; omega
  | ⟨1, _⟩ => show win0_5.index t 1 * 18432 + 1 * (i 1).val = (i 1).val; rw [show win0_5.index t 1 = 0 from rfl]; omega
theorem in6 (c : Dev nD) (t : Fin cfg0.N) : (iblk m c 6 t : Vec Ideal S7168x32 .bf16) = V m c main_arg6 := by
  funext i
  unfold iblk
  rw [View.read_apply]
  show V m c main_arg6 _ = _
  refine congrArg (V m c main_arg6) ?_
  funext a; apply Fin.ext
  match a with
  | ⟨0, _⟩ => show win0_6.index t 0 * 7168 + 1 * (i 0).val = (i 0).val; rw [show win0_6.index t 0 = 0 from rfl]; omega
  | ⟨1, _⟩ => show win0_6.index t 1 * 32 + 1 * (i 1).val = (i 1).val; rw [show win0_6.index t 1 = 0 from rfl]; omega
theorem in7 (c : Dev nD) (t : Fin cfg0.N) : (iblk m c 7 t : Vec Ideal S32x18432 .bf16) = V m c main_arg7 := by
  funext i
  unfold iblk
  rw [View.read_apply]
  show V m c main_arg7 _ = _
  refine congrArg (V m c main_arg7) ?_
  funext a; apply Fin.ext
  match a with
  | ⟨0, _⟩ => show win0_7.index t 0 * 32 + 1 * (i 0).val = (i 0).val; rw [show win0_7.index t 0 = 0 from rfl]; omega
  | ⟨1, _⟩ => show win0_7.index t 1 * 18432 + 1 * (i 1).val = (i 1).val; rw [show win0_7.index t 1 = 0 from rfl]; omega

theorem x_at (c : Dev nD) (p : Fin 256) (d : Fin 7168) : V m c main_v2 (ix2 p d)
    = Ideal.ofBits .fp8e4m3 (m ((c : Thread nD τ).loc main_arg0)
        (ix3 (⟨p.val / 128, by omega⟩ : Fin 2) (⟨p.val % 128, Nat.mod_lt _ (by decide)⟩ : Fin 128) d)) := by
  rw [V_main_v2, shapeCast_apply _ _ (ix2 p d)
    (ix3 (⟨p.val / 128, by omega⟩ : Fin 2) (⟨p.val % 128, Nat.mod_lt _ (by decide)⟩ : Fin 128) d)
    (by rw [Shape.rowMajor_val_three, Shape.rowMajor_val_two]
        show (p.val / 128 * 128 + p.val % 128) * 7168 + d.val = p.val * 7168 + d.val
        omega)]
  rfl

theorem dy_at (c : Dev nD) (p : Fin 256) (o : Fin 18432) : V m c main_v4 (ix2 p o)
    = Ideal.ofBits .fp8e5m2 (m ((c : Thread nD τ).loc main_arg2)
        (ix3 (⟨p.val / 128, by omega⟩ : Fin 2) (⟨p.val % 128, Nat.mod_lt _ (by decide)⟩ : Fin 128) o)) := by
  rw [V_main_v4, shapeCast_apply _ _ (ix2 p o)
    (ix3 (⟨p.val / 128, by omega⟩ : Fin 2) (⟨p.val % 128, Nat.mod_lt _ (by decide)⟩ : Fin 128) o)
    (by rw [Shape.rowMajor_val_three, Shape.rowMajor_val_two]
        show (p.val / 128 * 128 + p.val % 128) * 18432 + o.val = p.val * 18432 + o.val
        omega)]
  rfl

theorem xs_at (c : Dev nD) (p : Fin 256) : V m c main_v3 (ix2 p (0 : Fin 1))
    = m ((c : Thread nD τ).loc main_arg1) (ix2 (⟨p.val / 128, by omega⟩ : Fin 2) (⟨p.val % 128, Nat.mod_lt _ (by decide)⟩ : Fin 128)) := by
  rw [V_main_v3, shapeCast_apply _ _ (ix2 p (0 : Fin 1))
    (ix2 (⟨p.val / 128, by omega⟩ : Fin 2) (⟨p.val % 128, Nat.mod_lt _ (by decide)⟩ : Fin 128))
    (by rw [Shape.rowMajor_val_two, Shape.rowMajor_val_two]
        show p.val / 128 * 128 + p.val % 128 = p.val * 1 + 0
        omega)]

theorem dys_at (c : Dev nD) (p : Fin 256) : V m c main_v5 (ix2 p (0 : Fin 1))
    = m ((c : Thread nD τ).loc main_arg3) (ix2 (⟨p.val / 128, by omega⟩ : Fin 2) (⟨p.val % 128, Nat.mod_lt _ (by decide)⟩ : Fin 128)) := by
  rw [V_main_v5, shapeCast_apply _ _ (ix2 p (0 : Fin 1))
    (ix2 (⟨p.val / 128, by omega⟩ : Fin 2) (⟨p.val % 128, Nat.mod_lt _ (by decide)⟩ : Fin 128))
    (by rw [Shape.rowMajor_val_two, Shape.rowMajor_val_two]
        show p.val / 128 * 128 + p.val % 128 = p.val * 1 + 0
        omega)]

theorem ws_at (c : Dev nD) (o : Fin 18432) : V m c main_v6 (ix2 (0 : Fin 1) o) = m ((c : Thread nD τ).loc main_arg5) (ix1 o) := by
  rw [V_main_v6]
  exact shapeCast_a_1a_apply _ _ (0 : Fin 1) o

/-! ## The results -/

theorem arr8_at (c : Dev nD) (t : Fin cfg0.N) (hf : (cfg0.win 8).flush t = true) (i : Fin 256) (j : Fin 7168) : (dats m 0 c).arrAt 8 cfg0.N (ix2 i j)
    = out0_8 (V m c main_v2) (V m c main_v3) (V m c main_v4) (V m c main_v5) (V m c main_arg4) (V m c main_v6) (V m c main_arg6) (V m c main_arg7) (ix2 i j) := by
  have h2 := congrFun (Value.blocks8 m c t hf) (ix2 i j)
  have h3 : (dats m 0 c).flushed 8 t
      = out0_8 (V m c main_v2) (V m c main_v3) (V m c main_v4) (V m c main_v5) (V m c main_arg4) (V m c main_v6) (V m c main_arg6) (V m c main_arg7) := by
    rw [Value.flushed8, in0, in1, in2, in3, in4, in5, in6, in7]
    rfl
  rw [h3, View.read_apply] at h2
  rw [← h2]
  generalize (dats m 0 c).arrAt 8 cfg0.N = A
  refine congrArg A ?_
  funext a; apply Fin.ext
  match a with
  | ⟨0, _⟩ => show i.val = win0_8.index t 0 * 256 + 1 * i.val; rw [show win0_8.index t 0 = 0 from rfl]; omega
  | ⟨1, _⟩ => show j.val = win0_8.index t 1 * 7168 + 1 * j.val; rw [show win0_8.index t 1 = 0 from rfl]; omega

theorem arr9_at (c : Dev nD) (t : Fin cfg0.N) (hf : (cfg0.win 9).flush t = true) (i : Fin 7168) (j : Fin 32) : (dats m 0 c).arrAt 9 cfg0.N (ix2 i j)
    = out0_9 (V m c main_v2) (V m c main_v3) (V m c main_v4) (V m c main_v5) (V m c main_arg4) (V m c main_v6) (V m c main_arg6) (V m c main_arg7) (ix2 i j) := by
  have h2 := congrFun (Value.blocks9 m c t hf) (ix2 i j)
  have h3 : (dats m 0 c).flushed 9 t
      = out0_9 (V m c main_v2) (V m c main_v3) (V m c main_v4) (V m c main_v5) (V m c main_arg4) (V m c main_v6) (V m c main_arg6) (V m c main_arg7) := by
    rw [Value.flushed9, in0, in1, in2, in3, in4, in5, in6, in7]
    rfl
  rw [h3, View.read_apply] at h2
  rw [← h2]
  generalize (dats m 0 c).arrAt 9 cfg0.N = A
  refine congrArg A ?_
  funext a; apply Fin.ext
  match a with
  | ⟨0, _⟩ => show i.val = win0_9.index t 0 * 7168 + 1 * i.val; rw [show win0_9.index t 0 = 0 from rfl]; omega
  | ⟨1, _⟩ => show j.val = win0_9.index t 1 * 32 + 1 * j.val; rw [show win0_9.index t 1 = 0 from rfl]; omega

theorem arr10_at (c : Dev nD) (t : Fin cfg0.N) (hf : (cfg0.win 10).flush t = true) (i : Fin 32) (j : Fin 18432) : (dats m 0 c).arrAt 10 cfg0.N (ix2 i j)
    = out0_10 (V m c main_v2) (V m c main_v3) (V m c main_v4) (V m c main_v5) (V m c main_arg4) (V m c main_v6) (V m c main_arg6) (V m c main_arg7) (ix2 i j) := by
  have h2 := congrFun (Value.blocks10 m c t hf) (ix2 i j)
  have h3 : (dats m 0 c).flushed 10 t
      = out0_10 (V m c main_v2) (V m c main_v3) (V m c main_v4) (V m c main_v5) (V m c main_arg4) (V m c main_v6) (V m c main_arg6) (V m c main_arg7) := by
    rw [Value.flushed10, in0, in1, in2, in3, in4, in5, in6, in7]
    rfl
  rw [h3, View.read_apply] at h2
  rw [← h2]
  generalize (dats m 0 c).arrAt 10 cfg0.N = A
  refine congrArg A ?_
  funext a; apply Fin.ext
  match a with
  | ⟨0, _⟩ => show i.val = win0_10.index t 0 * 32 + 1 * i.val; rw [show win0_10.index t 0 = 0 from rfl]; omega
  | ⟨1, _⟩ => show j.val = win0_10.index t 1 * 18432 + 1 * j.val; rw [show win0_10.index t 1 = 0 from rfl]; omega

theorem arr11_at (c : Dev nD) (t : Fin cfg0.N) (hf : (cfg0.win 11).flush t = true) (i : Fin 256) (j : Fin 32) : (dats m 0 c).arrAt 11 cfg0.N (ix2 i j)
    = out0_11 (V m c main_v2) (V m c main_v3) (V m c main_v4) (V m c main_v5) (V m c main_arg4) (V m c main_v6) (V m c main_arg6) (V m c main_arg7) (ix2 i j) := by
  have h2 := congrFun (Value.blocks11 m c t hf) (ix2 i j)
  have h3 : (dats m 0 c).flushed 11 t
      = out0_11 (V m c main_v2) (V m c main_v3) (V m c main_v4) (V m c main_v5) (V m c main_arg4) (V m c main_v6) (V m c main_arg6) (V m c main_arg7) := by
    rw [Value.flushed11, in0, in1, in2, in3, in4, in5, in6, in7]
    rfl
  rw [h3, View.read_apply] at h2
  rw [← h2]
  generalize (dats m 0 c).arrAt 11 cfg0.N = A
  refine congrArg A ?_
  funext a; apply Fin.ext
  match a with
  | ⟨0, _⟩ => show i.val = win0_11.index t 0 * 256 + 1 * i.val; rw [show win0_11.index t 0 = 0 from rfl]; omega
  | ⟨1, _⟩ => show j.val = win0_11.index t 1 * 32 + 1 * j.val; rw [show win0_11.index t 1 = 0 from rfl]; omega

theorem arr12_at (c : Dev nD) (t : Fin cfg0.N) (hf : (cfg0.win 12).flush t = true) (i : Fin 256) (j : Fin 32) : (dats m 0 c).arrAt 12 cfg0.N (ix2 i j)
    = out0_12 (V m c main_v2) (V m c main_v3) (V m c main_v4) (V m c main_v5) (V m c main_arg4) (V m c main_v6) (V m c main_arg6) (V m c main_arg7) (ix2 i j) := by
  have h2 := congrFun (Value.blocks12 m c t hf) (ix2 i j)
  have h3 : (dats m 0 c).flushed 12 t
      = out0_12 (V m c main_v2) (V m c main_v3) (V m c main_v4) (V m c main_v5) (V m c main_arg4) (V m c main_v6) (V m c main_arg6) (V m c main_arg7) := by
    rw [Value.flushed12, in0, in1, in2, in3, in4, in5, in6, in7]
    rfl
  rw [h3, View.read_apply] at h2
  rw [← h2]
  generalize (dats m 0 c).arrAt 12 cfg0.N = A
  refine congrArg A ?_
  funext a; apply Fin.ext
  match a with
  | ⟨0, _⟩ => show i.val = win0_12.index t 0 * 256 + 1 * i.val; rw [show win0_12.index t 0 = 0 from rfl]; omega
  | ⟨1, _⟩ => show j.val = win0_12.index t 1 * 32 + 1 * j.val; rw [show win0_12.index t 1 = 0 from rfl]; omega

end Cert.ReferenceIdeal.Hand
end
-- ==== Proof.RRes.lean ====
/- The reference's five result arrays after the run are the five results of its arguments' values. -/
module

public import proofs.«01_k».proof.Proof.RArr
public import proofs.«01_k».proof.Proof.Law

@[expose] public section

set_option maxRecDepth 16384

noncomputable section

namespace Cert.ReferenceIdeal.Hand

open Idealize.ShloMosaic
open Idealize.ShloMosaic.ValueIdx
open Idealize.ShloMosaic.TcCoe Idealize.SL.Sem
open Cert.ReferenceIdeal.Gen Cert.Val
open scoped BigOperators

variable (m : (ℓ : Loc nD τ sig) → Buf (Elt Ideal) ℓ)

/-- The values of the arguments. -/
def vX (c : Dev nD) : Fin 256 → Fin 7168 → EReal := codes .fp8e4m3 (m ((c : Thread nD τ).loc main_arg0))
def vXs (c : Dev nD) : Fin 256 → EReal := scales (m ((c : Thread nD τ).loc main_arg1))
def vY (c : Dev nD) : Fin 256 → Fin 18432 → EReal := codes .fp8e5m2 (m ((c : Thread nD τ).loc main_arg2))
def vYs (c : Dev nD) : Fin 256 → EReal := scales (m ((c : Thread nD τ).loc main_arg3))
def vW (c : Dev nD) : Fin 7168 → Fin 18432 → EReal := mat (m ((c : Thread nD τ).loc main_arg4))
def vWs (c : Dev nD) : Fin 18432 → EReal := vec (m ((c : Thread nD τ).loc main_arg5))
def vA (c : Dev nD) : Fin 7168 → Fin 32 → EReal := mat (m ((c : Thread nD τ).loc main_arg6))
def vB (c : Dev nD) : Fin 32 → Fin 18432 → EReal := mat (m ((c : Thread nD τ).loc main_arg7))

theorem eX (c : Dev nD) (p : Fin 256) (d : Fin 7168) : V m c main_v2 (ix2 p d) = vX m c p d := x_at m c p d
theorem eXs (c : Dev nD) (p : Fin 256) : V m c main_v3 (ix2 p (0 : Fin 1)) = vXs m c p := xs_at m c p
theorem eY (c : Dev nD) (p : Fin 256) (o : Fin 18432) : V m c main_v4 (ix2 p o) = vY m c p o := dy_at m c p o
theorem eYs (c : Dev nD) (p : Fin 256) : V m c main_v5 (ix2 p (0 : Fin 1)) = vYs m c p := dys_at m c p
theorem eW (c : Dev nD) (d : Fin 7168) (o : Fin 18432) : V m c main_arg4 (ix2 d o) = vW m c d o := by rw [V_main_arg4]; rfl
theorem eWs (c : Dev nD) (o : Fin 18432) : V m c main_v6 (ix2 (0 : Fin 1) o) = vWs m c o := ws_at m c o
theorem eA (c : Dev nD) (d : Fin 7168) (r : Fin 32) : V m c main_arg6 (ix2 d r) = vA m c d r := by rw [V_main_arg6]; rfl
theorem eB (c : Dev nD) (r : Fin 32) (o : Fin 18432) : V m c main_arg7 (ix2 r o) = vB m c r o := by rw [V_main_arg7]; rfl

theorem eTT (c : Dev nD) (p : Fin 256) (r : Fin 32) : tt (V m c main_v4) (V m c main_v5) (V m c main_arg7) p r = resT (vY m c) (vYs m c) (vB m c) p r := by
  unfold tt resT
  rw [eYs]
  exact congrArg (fun s : EReal => s * vYs m c p) (Finset.sum_congr rfl fun o _ => by rw [eY, eB])
theorem eXA (c : Dev nD) (p : Fin 256) (r : Fin 32) : xa (V m c main_v2) (V m c main_v3) (V m c main_arg6) p r = resXA (vX m c) (vXs m c) (vA m c) p r := by
  unfold xa resXA
  rw [eXs]
  exact congrArg (fun s : EReal => s * vXs m c p) (Finset.sum_congr rfl fun d _ => by rw [eX, eA])

/-- The only grid point. -/
def t0 : Fin cfg0.N := ⟨0, by decide⟩

variable (c : Dev nD)

theorem res8 (p : Fin 256) (d : Fin 7168) : (dats m 0 c).arrAt 8 cfg0.N (ix2 p d)
    = resDX (vY m c) (vYs m c) (vW m c) (vWs m c) (vA m c) (vB m c) two p d := by
  rw [arr8_at m c t0 (flush0_8 t0), out8_at, eYs]
  unfold resDX
  refine congrArg₂ (fun s t : EReal => s * vYs m c p + two * t) (Finset.sum_congr rfl fun o _ => ?_) (Finset.sum_congr rfl fun r _ => ?_)
  · rw [eY, eW, eWs]
  · rw [eTT, eA]

theorem res9 (d : Fin 7168) (r : Fin 32) : (dats m 0 c).arrAt 9 cfg0.N (ix2 d r)
    = resDA (vX m c) (vXs m c) (vY m c) (vYs m c) (vB m c) two d r := by
  rw [arr9_at m c t0 (flush0_9 t0), out9_at]
  unfold resDA
  refine congrArg (fun s : EReal => two * s) (Finset.sum_congr rfl fun p _ => ?_)
  rw [eX, eXs, eTT]

theorem res10 (r : Fin 32) (o : Fin 18432) : (dats m 0 c).arrAt 10 cfg0.N (ix2 r o)
    = resDB (vX m c) (vXs m c) (vY m c) (vYs m c) (vA m c) two r o := by
  rw [arr10_at m c t0 (flush0_10 t0), out10_at]
  unfold resDB
  refine congrArg (fun s : EReal => two * s) (Finset.sum_congr rfl fun p _ => ?_)
  rw [eXA, eYs, eY]

theorem res11 (p : Fin 256) (r : Fin 32) : (dats m 0 c).arrAt 11 cfg0.N (ix2 p r) = resT (vY m c) (vYs m c) (vB m c) p r := by
  rw [arr11_at m c t0 (flush0_11 t0), out11_at, eTT]

theorem res12 (p : Fin 256) (r : Fin 32) : (dats m 0 c).arrAt 12 cfg0.N (ix2 p r) = resXA (vX m c) (vXs m c) (vA m c) p r := by
  rw [arr12_at m c t0 (flush0_12 t0), out12_at, eXA]

end Cert.ReferenceIdeal.Hand
end
-- ==== Proof.Same.lean ====
/- The kernel and the reference leave the same five result arrays, from equal arguments of which all but the base weight and its scale are finite. -/
module

public import proofs.«01_k».proof.Defs
public import proofs.«01_k».proof.Proof.KRes
public import proofs.«01_k».proof.Proof.RRes
public import proofs.«01_k».proof.Proof.Fin
public import proofs.«01_k».proof.Proof.Gen.ReferenceIdeal.Value

@[expose] public section

set_option maxRecDepth 16384

noncomputable section

namespace Cert.Val

open Idealize.ShloMosaic hiding ix1 ix2 ix3 eq_ix2
open Idealize.ShloMosaic.ValueIdx
open Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The precondition makes the arguments' values finite. -/
theorem ok_of_pre (h : Cert.Pre_KernelIdeal_finite m) (c : Dev Cert.KernelIdeal.nD) : Cert.KernelIdeal.Hand.Ok m c :=
  have h := h c
  ⟨fun _ _ => mask0 _ _ _ _ _ _ _ _ h.1 _, fun _ => mask2 _ _ _ _ _ _ _ _ h.2.2.1 _, fun _ _ => mask1 _ _ _ _ _ _ _ _ h.2.1 _,
    fun _ => mask3 _ _ _ _ _ _ _ _ h.2.2.2.1 _, fun _ _ => mask4 _ _ _ _ _ _ _ _ h.2.2.2.2.1 _, fun _ _ => mask5 _ _ _ _ _ _ _ _ h.2.2.2.2.2 _⟩

/-- The two programs' arguments are the same. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m m'} {c : Dev Cert.KernelIdeal.nD} (h : Agree m m' c)
include h

theorem Agree.vX : Cert.ReferenceIdeal.Hand.vX m' c = Cert.KernelIdeal.Hand.vX m c := congrArg (codes .fp8e4m3) h.1
theorem Agree.vXs : Cert.ReferenceIdeal.Hand.vXs m' c = Cert.KernelIdeal.Hand.vXs m c := congrArg (scales) h.2.1
theorem Agree.vY : Cert.ReferenceIdeal.Hand.vY m' c = Cert.KernelIdeal.Hand.vY m c := congrArg (codes .fp8e5m2) h.2.2.1
theorem Agree.vYs : Cert.ReferenceIdeal.Hand.vYs m' c = Cert.KernelIdeal.Hand.vYs m c := congrArg (scales) h.2.2.2.1
theorem Agree.vW : Cert.ReferenceIdeal.Hand.vW m' c = Cert.KernelIdeal.Hand.vW m c := congrArg (mat) h.2.2.2.2.1
theorem Agree.vWs : Cert.ReferenceIdeal.Hand.vWs m' c = Cert.KernelIdeal.Hand.vWs m c := congrArg (vec) h.2.2.2.2.2.1
theorem Agree.vA : Cert.ReferenceIdeal.Hand.vA m' c = Cert.KernelIdeal.Hand.vA m c := congrArg (mat) h.2.2.2.2.2.2.1
theorem Agree.vB : Cert.ReferenceIdeal.Hand.vB m' c = Cert.KernelIdeal.Hand.vB m c := congrArg (mat) h.2.2.2.2.2.2.2

variable (hk : Cert.KernelIdeal.Hand.Ok m c)

include hk in
theorem same8 : (Cert.ReferenceIdeal.Gen.dats m' 0 c).arrAt 8 Cert.ReferenceIdeal.cfg0.N = (Cert.KernelIdeal.Hand.dats m 0 c).arrAt 8 Cert.KernelIdeal.cfg0.N := by
  funext j
  revert j
  refine Cert.KernelIdeal.Hand.forall_ix2 fun i k => ?_
  refine (Cert.ReferenceIdeal.Hand.res8 m' c i k).trans (Eq.trans ?_ (Cert.KernelIdeal.Hand.res8 hk i k).symm)
  rw [h.vY, h.vYs, h.vW, h.vWs, h.vA, h.vB]
  rfl

include hk in
theorem same9 : (Cert.ReferenceIdeal.Gen.dats m' 0 c).arrAt 9 Cert.ReferenceIdeal.cfg0.N = (Cert.KernelIdeal.Hand.dats m 0 c).arrAt 9 Cert.KernelIdeal.cfg0.N := by
  funext j
  revert j
  refine Cert.KernelIdeal.Hand.forall_ix2 fun i k => ?_
  refine (Cert.ReferenceIdeal.Hand.res9 m' c i k).trans (Eq.trans ?_ (Cert.KernelIdeal.Hand.res9 hk i k).symm)
  rw [h.vX, h.vXs, h.vY, h.vYs, h.vB]
  rfl

include hk in
theorem same10 : (Cert.ReferenceIdeal.Gen.dats m' 0 c).arrAt 10 Cert.ReferenceIdeal.cfg0.N = (Cert.KernelIdeal.Hand.dats m 0 c).arrAt 10 Cert.KernelIdeal.cfg0.N := by
  funext j
  revert j
  refine Cert.KernelIdeal.Hand.forall_ix2 fun i k => ?_
  refine (Cert.ReferenceIdeal.Hand.res10 m' c i k).trans (Eq.trans ?_ (Cert.KernelIdeal.Hand.res10 hk i k).symm)
  rw [h.vX, h.vXs, h.vY, h.vYs, h.vA]
  rfl

theorem same11 : (Cert.ReferenceIdeal.Gen.dats m' 0 c).arrAt 11 Cert.ReferenceIdeal.cfg0.N = (Cert.KernelIdeal.Hand.dats m 0 c).arrAt 11 Cert.KernelIdeal.cfg0.N := by
  funext j
  revert j
  refine Cert.KernelIdeal.Hand.forall_ix2 fun i k => ?_
  refine (Cert.ReferenceIdeal.Hand.res11 m' c i k).trans (Eq.trans ?_ (Cert.KernelIdeal.Hand.res11 i k).symm)
  rw [h.vY, h.vYs, h.vB]

theorem same12 : (Cert.ReferenceIdeal.Gen.dats m' 0 c).arrAt 12 Cert.ReferenceIdeal.cfg0.N = (Cert.KernelIdeal.Hand.dats m 0 c).arrAt 12 Cert.KernelIdeal.cfg0.N := by
  funext j
  revert j
  refine Cert.KernelIdeal.Hand.forall_ix2 fun i k => ?_
  refine (Cert.ReferenceIdeal.Hand.res12 m' c i k).trans (Eq.trans ?_ (Cert.KernelIdeal.Hand.res12 i k).symm)
  rw [h.vX, h.vXs, h.vA]

omit h

/-- The kernel ends with its five result arrays, and its arguments as they were. -/
theorem kernel_run (g : Dev Cert.KernelIdeal.nD → PrngReg) : θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5_0) = (Cert.KernelIdeal.Hand.dats m 0 c).arrAt 8 Cert.KernelIdeal.cfg0.N
      ∧ r.2.mem ((c.tc : Thread Cert.KernelIdeal.nD Cert.KernelIdeal.τ).loc Cert.KernelIdeal.main_v5_1) = (Cert.KernelIdeal.Hand.dats m 0 c).arrAt 9 Cert.KernelIdeal.cfg0.N
      ∧ r.2.mem ((c.tc : Thread Cert.KernelIdeal.nD Cert.KernelIdeal.τ).loc Cert.KernelIdeal.main_v5_2) = (Cert.KernelIdeal.Hand.dats m 0 c).arrAt 10 Cert.KernelIdeal.cfg0.N
      ∧ r.2.mem ((c.tc : Thread Cert.KernelIdeal.nD Cert.KernelIdeal.τ).loc Cert.KernelIdeal.main_v5_3) = (Cert.KernelIdeal.Hand.dats m 0 c).arrAt 11 Cert.KernelIdeal.cfg0.N
      ∧ r.2.mem ((c.tc : Thread Cert.KernelIdeal.nD Cert.KernelIdeal.τ).loc Cert.KernelIdeal.main_v5_4) = (Cert.KernelIdeal.Hand.dats m 0 c).arrAt 12 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run _ _ _).mono (fun r h c => ⟨(h.1 c).1 8, (h.1 c).1 9, (h.1 c).1 10, (h.1 c).1 11, (h.1 c).1 12, h.2 c⟩)
    (θ_run_and (Cert.KernelIdeal.Hand.run_main m g) (Cert.KernelIdeal.Hand.unchanged m g))

end Cert.Val

namespace Cert.Proof

open Idealize.ShloMosaic Idealize.SL.Sem Cert.Val

/-- The idealized kernel computes what the idealized reference does. -/
theorem algebraic : letI := Cert.KernelIdeal.Gen.facts; letI := Cert.ReferenceIdeal.Gen.facts; letI := finiteFacts; Cert.algebraic_KernelIdeal_ReferenceIdeal_pre_finite := by
  intro m g m' g' hpre hag
  have hk := ok_of_pre m hpre
  refine ⟨fun c => (Cert.KernelIdeal.Hand.dats m 0 c).arrAt 8 Cert.KernelIdeal.cfg0.N, fun c => (Cert.KernelIdeal.Hand.dats m 0 c).arrAt 9 Cert.KernelIdeal.cfg0.N,
    fun c => (Cert.KernelIdeal.Hand.dats m 0 c).arrAt 10 Cert.KernelIdeal.cfg0.N, fun c => (Cert.KernelIdeal.Hand.dats m 0 c).arrAt 11 Cert.KernelIdeal.cfg0.N,
    fun c => (Cert.KernelIdeal.Hand.dats m 0 c).arrAt 12 Cert.KernelIdeal.cfg0.N, kernel_run g,
    (θ_run _ _ _).mono (fun r h c => ?_) (Cert.ReferenceIdeal.Value.run_blocks m' g')⟩
  have ha : Agree m m' c := hag c
  obtain ⟨h8, h9, h10, h11, h12, hrest⟩ := h c
  exact ⟨h8.trans (same8 ha (hk c)), h9.trans (same9 ha (hk c)), h10.trans (same10 ha (hk c)), h11.trans (same11 ha), h12.trans (same12 ha), hrest⟩

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KFrame
public import proofs.«01_k».proof.Proof.KBits
public import proofs.«01_k».proof.Proof.Fin
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Val.finiteFacts,
  fun m g _ => Cert.Kernel.Hand.frame m g,
  fun m g _ => Cert.KernelIdeal.Hand.frame m g, fun m g _ => Cert.KernelIdeal.Hand.frame m g,
  fun m g _ => Cert.ReferenceIdeal.Gen.frame m g, fun m g _ => Cert.ReferenceIdeal.Gen.frame m g,
  trivial, algebraic⟩

end Cert.Proof

end
